-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S24x512x1536 : Shape := ⟨3, ![24, 512, 1536]⟩
abbrev S1536x5120 : Shape := ⟨2, ![1536, 5120]⟩
abbrev S12x40 : Shape := ⟨2, ![12, 40]⟩
abbrev S1536x48 : Shape := ⟨2, ![1536, 48]⟩
abbrev S48x5120 : Shape := ⟨2, ![48, 5120]⟩
abbrev S5120 : Shape := ⟨1, ![5120]⟩
abbrev S_ : Shape := ⟨0, ![]⟩

class Facts : Prop where
  bitsLt_bf16_f32 : FTy.bits .bf16 < FTy.bits .f32
  bcast_S_S24x512x1536 : S_.BroadcastsInDim S24x512x1536 (![] : Fin 0 → Fin S24x512x1536.rank)

variable [Facts]

def fn {F : FTy → Type} [FloatOps F] (main_arg0 : FVec F S24x512x1536 .bf16) (main_arg1 : FVec F S1536x5120 .fp8e4m3) (main_arg2 : FVec F S12x40 .f32) (main_arg3 : FVec F S1536x48 .bf16) (main_arg4 : FVec F S48x5120 .bf16) (main_arg5 : FVec F S5120 .f32) : IVec S24x512x1536 1 :=
  let main_v0 : FVec F S24x512x1536 .f32 := (extf .f32 · bitsLt_bf16_f32) main_arg0
  let main_v1 : FVec F S24x512x1536 .f32 := Host.absf main_v0
  let main_cst : FVec F S_ .f32 := constant S_ .f32 0x7F7F0000#32
  let main_v2 : FVec F S24x512x1536 .f32 := broadcastInDim S24x512x1536 ![] bcast_S_S24x512x1536 main_cst
  let main_v3 : IVec S24x512x1536 1 := cmpf .ole main_v1 main_v2
  main_v3
-- ==== Kernel.lean ====
abbrev S24x512x1536 : Shape := ⟨3, ![24, 512, 1536]⟩
abbrev S1536x5120 : Shape := ⟨2, ![1536, 5120]⟩
abbrev S12x40 : Shape := ⟨2, ![12, 40]⟩
abbrev S1536x48 : Shape := ⟨2, ![1536, 48]⟩
abbrev S48x5120 : Shape := ⟨2, ![48, 5120]⟩
abbrev S5120 : Shape := ⟨1, ![5120]⟩
abbrev S1x5120 : Shape := ⟨2, ![1, 5120]⟩
abbrev S24x512x5120 : Shape := ⟨3, ![24, 512, 5120]⟩
abbrev S24x512x12 : Shape := ⟨3, ![24, 512, 12]⟩
abbrev S1x512x1536 : Shape := ⟨3, ![1, 512, 1536]⟩
abbrev S1x512x5120 : Shape := ⟨3, ![1, 512, 5120]⟩
abbrev S1x512x12 : Shape := ⟨3, ![1, 512, 12]⟩
abbrev S1792x5120 : Shape := ⟨2, ![1792, 5120]⟩
abbrev S512x1792 : Shape := ⟨2, ![512, 1792]⟩
abbrev S48x256 : Shape := ⟨2, ![48, 256]⟩
abbrev S1x256 : Shape := ⟨2, ![1, 256]⟩
abbrev S128x48 : Shape := ⟨2, ![128, 48]⟩
abbrev S128x256 : Shape := ⟨2, ![128, 256]⟩
abbrev S1x1 : Shape := ⟨2, ![1, 1]⟩
abbrev S1x128 : Shape := ⟨2, ![1, 128]⟩
abbrev S256 : Shape := ⟨1, ![256]⟩
abbrev S208x256 : Shape := ⟨2, ![208, 256]⟩
abbrev S512x12 : Shape := ⟨2, ![512, 12]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x1536 : Shape := ⟨2, ![512, 1536]⟩
abbrev S512x48 : Shape := ⟨2, ![512, 48]⟩
abbrev S512x208 : Shape := ⟨2, ![512, 208]⟩
abbrev S512x256 : Shape := ⟨2, ![512, 256]⟩
abbrev S1792x1024 : Shape := ⟨2, ![1792, 1024]⟩
abbrev S512x1024 : Shape := ⟨2, ![512, 1024]⟩
abbrev S1x1024 : Shape := ⟨2, ![1, 1024]⟩
abbrev S1x512x1024 : Shape := ⟨3, ![1, 512, 1024]⟩

abbrev nBuf : Space → Nat
  | .hbm => 11
  | .vmem => 16
  | .smem => 1
  | _ => 0

abbrev bufTy : (tb : Table) → Fin (tcTables nBuf tb) → BufTy
  | .hbm, ⟨0, _⟩ => ⟨S24x512x1536, .bf16⟩
  | .hbm, ⟨1, _⟩ => ⟨S1536x5120, .fp8e4m3⟩
  | .hbm, ⟨2, _⟩ => ⟨S12x40, .f32⟩
  | .hbm, ⟨3, _⟩ => ⟨S1536x48, .bf16⟩
  | .hbm, ⟨4, _⟩ => ⟨S48x5120, .bf16⟩
  | .hbm, ⟨5, _⟩ => ⟨S5120, .f32⟩
  | .hbm, ⟨6, _⟩ => ⟨S1x5120, .f32⟩
  | .hbm, ⟨7, _⟩ => ⟨S24x512x5120, .bf16⟩
  | .hbm, ⟨8, _⟩ => ⟨S1x5120, .f32⟩
  | .hbm, ⟨9, _⟩ => ⟨S24x512x1536, .fp8e4m3⟩
  | .hbm, ⟨10, _⟩ => ⟨S24x512x12, .f32⟩
  | .local _ .vmem, ⟨0, _⟩ => ⟨S1x512x1536, .bf16⟩
  | .local _ .vmem, ⟨1, _⟩ => ⟨S1x512x1536, .bf16⟩
  | .local _ .vmem, ⟨2, _⟩ => ⟨S1536x5120, .fp8e4m3⟩
  | .local _ .vmem, ⟨3, _⟩ => ⟨S1536x48, .bf16⟩
  | .local _ .vmem, ⟨4, _⟩ => ⟨S48x5120, .bf16⟩
  | .local _ .vmem, ⟨5, _⟩ => ⟨S1x5120, .f32⟩
  | .local _ .vmem, ⟨6, _⟩ => ⟨S1x512x5120, .bf16⟩
  | .local _ .vmem, ⟨7, _⟩ => ⟨S1x512x5120, .bf16⟩
  | .local _ .vmem, ⟨8, _⟩ => ⟨S1x5120, .f32⟩
  | .local _ .vmem, ⟨9, _⟩ => ⟨S1x512x1536, .fp8e4m3⟩
  | .local _ .vmem, ⟨10, _⟩ => ⟨S1x512x1536, .fp8e4m3⟩
  | .local _ .vmem, ⟨11, _⟩ => ⟨S1x512x12, .f32⟩
  | .local _ .vmem, ⟨12, _⟩ => ⟨S1x512x12, .f32⟩
  | .local _ .vmem, ⟨13, _⟩ => ⟨S1792x5120, .bf16⟩
  | .local _ .vmem, ⟨14, _⟩ => ⟨S512x1792, .bf16⟩
  | .local _ .vmem, ⟨15, _⟩ => ⟨S1x5120, .f32⟩
  | .local _ .smem, ⟨0, _⟩ => ⟨S12x40, .f32⟩
  | _, _ => ⟨S24x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_498 : BitVec 32 := 0#32
  let c20_i32 : BitVec 32 := 20#32
  let v1377 : BitVec 32 := Scalar.addi c0_i32_498 c20_i32
  let c1_i32_499 : BitVec 32 := 1#32
  ⟨c0_i32_498, v1377, c1_i32_499⟩
def k0_mult1 (k0_t1 : Fin k0_t1_loop.trips) : BitVec 32 :=
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  v1378
def k0_off1 (k0_t1 : Fin k0_t1_loop.trips) : Fin 2 → Nat :=
  let c0_501 : Index := 0#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1380 : Index := Scalar.indexCast v1379
  ![0, v1380.toNat]
def k0_off2 (k0_t1 : Fin k0_t1_loop.trips) (c0_i32_505 : BitVec 32) : Fin 2 → Nat :=
  let c0_506 : Index := 0#32
  let c0_i32_498 : BitVec 32 := 0#32
  let c1_i32_499 : BitVec 32 := 1#32
  let arg14 : BitVec 32 := Scf.iv c0_i32_498 c1_i32_499 k0_t1
  let c2_i32_504 : BitVec 32 := 2#32
  let v1385 : BitVec 32 := Scalar.muli arg14 c2_i32_504
  let v1386 : BitVec 32 := Scalar.addi v1385 c0_i32_505
  let v1387 : Index := Scalar.indexCast v1386
  ![0, v1387.toNat]
def k0_off3 (k0_t1 : Fin k0_t1_loop.trips) : Fin 2 → Nat :=
  let c0_510 : Index := 0#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1396 : Index := Scalar.indexCast v1379
  ![0, v1396.toNat]
def k0_off4 (k0_t1 : Fin k0_t1_loop.trips) : Fin 2 → Nat :=
  let c0_511 : Index := 0#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1402 : Index := Scalar.indexCast v1379
  ![0, v1402.toNat]
def k0_off5 (k0_t1 : Fin k0_t1_loop.trips) (c0_i32_516 : BitVec 32) : Fin 2 → Nat :=
  let c1 : Index := 1#32
  let c0_i32_498 : BitVec 32 := 0#32
  let c1_i32_499 : BitVec 32 := 1#32
  let arg14 : BitVec 32 := Scf.iv c0_i32_498 c1_i32_499 k0_t1
  let c2_i32_515 : BitVec 32 := 2#32
  let v1415 : BitVec 32 := Scalar.muli arg14 c2_i32_515
  let v1416 : BitVec 32 := Scalar.addi v1415 c0_i32_516
  let v1417 : Index := Scalar.indexCast v1416
  ![1, v1417.toNat]
def k0_off6 (k0_t1 : Fin k0_t1_loop.trips) : Fin 2 → Nat :=
  let c128_520 : Index := 128#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1426 : Index := Scalar.indexCast v1379
  ![128, v1426.toNat]
def k0_off7 (k0_t1 : Fin k0_t1_loop.trips) : Fin 2 → Nat :=
  let c128_521 : Index := 128#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1432 : Index := Scalar.indexCast v1379
  ![128, v1432.toNat]
def k0_off8 (k0_t1 : Fin k0_t1_loop.trips) (c0_i32_526 : BitVec 32) : Fin 2 → Nat :=
  let c2 : Index := 2#32
  let c0_i32_498 : BitVec 32 := 0#32
  let c1_i32_499 : BitVec 32 := 1#32
  let arg14 : BitVec 32 := Scf.iv c0_i32_498 c1_i32_499 k0_t1
  let c2_i32_525 : BitVec 32 := 2#32
  let v1445 : BitVec 32 := Scalar.muli arg14 c2_i32_525
  let v1446 : BitVec 32 := Scalar.addi v1445 c0_i32_526
  let v1447 : Index := Scalar.indexCast v1446
  ![2, v1447.toNat]
def k0_off9 (k0_t1 : Fin k0_t1_loop.trips) : Fin 2 → Nat :=
  let c256_530 : Index := 256#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1456 : Index := Scalar.indexCast v1379
  ![256, v1456.toNat]
def k0_off10 (k0_t1 : Fin k0_t1_loop.trips) : Fin 2 → Nat :=
  let c256_531 : Index := 256#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1462 : Index := Scalar.indexCast v1379
  ![256, v1462.toNat]
def k0_off11 (k0_t1 : Fin k0_t1_loop.trips) (c0_i32_536 : BitVec 32) : Fin 2 → Nat :=
  let c3 : Index := 3#32
  let c0_i32_498 : BitVec 32 := 0#32
  let c1_i32_499 : BitVec 32 := 1#32
  let arg14 : BitVec 32 := Scf.iv c0_i32_498 c1_i32_499 k0_t1
  let c2_i32_535 : BitVec 32 := 2#32
  let v1475 : BitVec 32 := Scalar.muli arg14 c2_i32_535
  let v1476 : BitVec 32 := Scalar.addi v1475 c0_i32_536
  let v1477 : Index := Scalar.indexCast v1476
  ![3, v1477.toNat]
def k0_off12 (k0_t1 : Fin k0_t1_loop.trips) : Fin 2 → Nat :=
  let c384_540 : Index := 384#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1486 : Index := Scalar.indexCast v1379
  ![384, v1486.toNat]
def k0_off13 (k0_t1 : Fin k0_t1_loop.trips) : Fin 2 → Nat :=
  let c384_541 : Index := 384#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1492 : Index := Scalar.indexCast v1379
  ![384, v1492.toNat]
def k0_off14 (k0_t1 : Fin k0_t1_loop.trips) (c0_i32_546 : BitVec 32) : Fin 2 → Nat :=
  let c4 : Index := 4#32
  let c0_i32_498 : BitVec 32 := 0#32
  let c1_i32_499 : BitVec 32 := 1#32
  let arg14 : BitVec 32 := Scf.iv c0_i32_498 c1_i32_499 k0_t1
  let c2_i32_545 : BitVec 32 := 2#32
  let v1505 : BitVec 32 := Scalar.muli arg14 c2_i32_545
  let v1506 : BitVec 32 := Scalar.addi v1505 c0_i32_546
  let v1507 : Index := Scalar.indexCast v1506
  ![4, v1507.toNat]
def k0_off15 (k0_t1 : Fin k0_t1_loop.trips) : Fin 2 → Nat :=
  let c512_550 : Index := 512#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1516 : Index := Scalar.indexCast v1379
  ![512, v1516.toNat]
def k0_off16 (k0_t1 : Fin k0_t1_loop.trips) : Fin 2 → Nat :=
  let c512_551 : Index := 512#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1522 : Index := Scalar.indexCast v1379
  ![512, v1522.toNat]
def k0_off17 (k0_t1 : Fin k0_t1_loop.trips) (c0_i32_556 : BitVec 32) : Fin 2 → Nat :=
  let c5 : Index := 5#32
  let c0_i32_498 : BitVec 32 := 0#32
  let c1_i32_499 : BitVec 32 := 1#32
  let arg14 : BitVec 32 := Scf.iv c0_i32_498 c1_i32_499 k0_t1
  let c2_i32_555 : BitVec 32 := 2#32
  let v1535 : BitVec 32 := Scalar.muli arg14 c2_i32_555
  let v1536 : BitVec 32 := Scalar.addi v1535 c0_i32_556
  let v1537 : Index := Scalar.indexCast v1536
  ![5, v1537.toNat]
def k0_off18 (k0_t1 : Fin k0_t1_loop.trips) : Fin 2 → Nat :=
  let c640_560 : Index := 640#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1546 : Index := Scalar.indexCast v1379
  ![640, v1546.toNat]
def k0_off19 (k0_t1 : Fin k0_t1_loop.trips) : Fin 2 → Nat :=
  let c640_561 : Index := 640#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1552 : Index := Scalar.indexCast v1379
  ![640, v1552.toNat]
def k0_off20 (k0_t1 : Fin k0_t1_loop.trips) (c0_i32_566 : BitVec 32) : Fin 2 → Nat :=
  let c6 : Index := 6#32
  let c0_i32_498 : BitVec 32 := 0#32
  let c1_i32_499 : BitVec 32 := 1#32
  let arg14 : BitVec 32 := Scf.iv c0_i32_498 c1_i32_499 k0_t1
  let c2_i32_565 : BitVec 32 := 2#32
  let v1565 : BitVec 32 := Scalar.muli arg14 c2_i32_565
  let v1566 : BitVec 32 := Scalar.addi v1565 c0_i32_566
  let v1567 : Index := Scalar.indexCast v1566
  ![6, v1567.toNat]
def k0_off21 (k0_t1 : Fin k0_t1_loop.trips) : Fin 2 → Nat :=
  let c768_570 : Index := 768#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1576 : Index := Scalar.indexCast v1379
  ![768, v1576.toNat]
def k0_off22 (k0_t1 : Fin k0_t1_loop.trips) : Fin 2 → Nat :=
  let c768_571 : Index := 768#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1582 : Index := Scalar.indexCast v1379
  ![768, v1582.toNat]
def k0_off23 (k0_t1 : Fin k0_t1_loop.trips) (c0_i32_576 : BitVec 32) : Fin 2 → Nat :=
  let c7 : Index := 7#32
  let c0_i32_498 : BitVec 32 := 0#32
  let c1_i32_499 : BitVec 32 := 1#32
  let arg14 : BitVec 32 := Scf.iv c0_i32_498 c1_i32_499 k0_t1
  let c2_i32_575 : BitVec 32 := 2#32
  let v1595 : BitVec 32 := Scalar.muli arg14 c2_i32_575
  let v1596 : BitVec 32 := Scalar.addi v1595 c0_i32_576
  let v1597 : Index := Scalar.indexCast v1596
  ![7, v1597.toNat]
def k0_off24 (k0_t1 : Fin k0_t1_loop.trips) : Fin 2 → Nat :=
  let c896_580 : Index := 896#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1606 : Index := Scalar.indexCast v1379
  ![896, v1606.toNat]
def k0_off25 (k0_t1 : Fin k0_t1_loop.trips) : Fin 2 → Nat :=
  let c896_581 : Index := 896#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1612 : Index := Scalar.indexCast v1379
  ![896, v1612.toNat]
def k0_off26 (k0_t1 : Fin k0_t1_loop.trips) (c0_i32_586 : BitVec 32) : Fin 2 → Nat :=
  let c8 : Index := 8#32
  let c0_i32_498 : BitVec 32 := 0#32
  let c1_i32_499 : BitVec 32 := 1#32
  let arg14 : BitVec 32 := Scf.iv c0_i32_498 c1_i32_499 k0_t1
  let c2_i32_585 : BitVec 32 := 2#32
  let v1625 : BitVec 32 := Scalar.muli arg14 c2_i32_585
  let v1626 : BitVec 32 := Scalar.addi v1625 c0_i32_586
  let v1627 : Index := Scalar.indexCast v1626
  ![8, v1627.toNat]
def k0_off27 (k0_t1 : Fin k0_t1_loop.trips) : Fin 2 → Nat :=
  let c1024_590 : Index := 1024#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1636 : Index := Scalar.indexCast v1379
  ![1024, v1636.toNat]
def k0_off28 (k0_t1 : Fin k0_t1_loop.trips) : Fin 2 → Nat :=
  let c1024_591 : Index := 1024#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1642 : Index := Scalar.indexCast v1379
  ![1024, v1642.toNat]
def k0_off29 (k0_t1 : Fin k0_t1_loop.trips) (c0_i32_596 : BitVec 32) : Fin 2 → Nat :=
  let c9 : Index := 9#32
  let c0_i32_498 : BitVec 32 := 0#32
  let c1_i32_499 : BitVec 32 := 1#32
  let arg14 : BitVec 32 := Scf.iv c0_i32_498 c1_i32_499 k0_t1
  let c2_i32_595 : BitVec 32 := 2#32
  let v1655 : BitVec 32 := Scalar.muli arg14 c2_i32_595
  let v1656 : BitVec 32 := Scalar.addi v1655 c0_i32_596
  let v1657 : Index := Scalar.indexCast v1656
  ![9, v1657.toNat]
def k0_off30 (k0_t1 : Fin k0_t1_loop.trips) : Fin 2 → Nat :=
  let c1152_600 : Index := 1152#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1666 : Index := Scalar.indexCast v1379
  ![1152, v1666.toNat]
def k0_off31 (k0_t1 : Fin k0_t1_loop.trips) : Fin 2 → Nat :=
  let c1152_601 : Index := 1152#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1672 : Index := Scalar.indexCast v1379
  ![1152, v1672.toNat]
def k0_off32 (k0_t1 : Fin k0_t1_loop.trips) (c0_i32_606 : BitVec 32) : Fin 2 → Nat :=
  let c10 : Index := 10#32
  let c0_i32_498 : BitVec 32 := 0#32
  let c1_i32_499 : BitVec 32 := 1#32
  let arg14 : BitVec 32 := Scf.iv c0_i32_498 c1_i32_499 k0_t1
  let c2_i32_605 : BitVec 32 := 2#32
  let v1685 : BitVec 32 := Scalar.muli arg14 c2_i32_605
  let v1686 : BitVec 32 := Scalar.addi v1685 c0_i32_606
  let v1687 : Index := Scalar.indexCast v1686
  ![10, v1687.toNat]
def k0_off33 (k0_t1 : Fin k0_t1_loop.trips) : Fin 2 → Nat :=
  let c1280_610 : Index := 1280#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1696 : Index := Scalar.indexCast v1379
  ![1280, v1696.toNat]
def k0_off34 (k0_t1 : Fin k0_t1_loop.trips) : Fin 2 → Nat :=
  let c1280_611 : Index := 1280#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1702 : Index := Scalar.indexCast v1379
  ![1280, v1702.toNat]
def k0_off35 (k0_t1 : Fin k0_t1_loop.trips) (c0_i32_616 : BitVec 32) : Fin 2 → Nat :=
  let c11 : Index := 11#32
  let c0_i32_498 : BitVec 32 := 0#32
  let c1_i32_499 : BitVec 32 := 1#32
  let arg14 : BitVec 32 := Scf.iv c0_i32_498 c1_i32_499 k0_t1
  let c2_i32_615 : BitVec 32 := 2#32
  let v1715 : BitVec 32 := Scalar.muli arg14 c2_i32_615
  let v1716 : BitVec 32 := Scalar.addi v1715 c0_i32_616
  let v1717 : Index := Scalar.indexCast v1716
  ![11, v1717.toNat]
def k0_off36 (k0_t1 : Fin k0_t1_loop.trips) : Fin 2 → Nat :=
  let c1408_620 : Index := 1408#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1726 : Index := Scalar.indexCast v1379
  ![1408, v1726.toNat]
def k0_off37 (k0_t1 : Fin k0_t1_loop.trips) : Fin 2 → Nat :=
  let c1408_621 : Index := 1408#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1732 : Index := Scalar.indexCast v1379
  ![1408, v1732.toNat]
def k0_off38 (k0_t1 : Fin k0_t1_loop.trips) : Fin 2 → Nat :=
  let c0_624 : Index := 0#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1744 : Index := Scalar.indexCast v1379
  ![0, v1744.toNat]
def k0_off39 (k0_t1 : Fin k0_t1_loop.trips) : Fin 2 → Nat :=
  let c1536_628 : Index := 1536#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1756 : Index := Scalar.indexCast v1379
  ![1536, v1756.toNat]
def k0_off40 (k0_t1 : Fin k0_t1_loop.trips) : Fin 2 → Nat :=
  let c1584 : Index := 1584#32
  let c0_i32_498 : BitVec 32 := 0#32
  let c1_i32_499 : BitVec 32 := 1#32
  let arg14 : BitVec 32 := Scf.iv c0_i32_498 c1_i32_499 k0_t1
  let c256_i32 : BitVec 32 := 256#32
  let v1378 : BitVec 32 := Scalar.muli arg14 c256_i32
  let v1379 : BitVec 32 := v1378
  let v1761 : Index := Scalar.indexCast v1379
  ![1584, v1761.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S12x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x12 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S24x512x1536 : Shape := ⟨3, ![24, 512, 1536]⟩
abbrev S1536x5120 : Shape := ⟨2, ![1536, 5120]⟩
abbrev S12x40 : Shape := ⟨2, ![12, 40]⟩
abbrev S1536x48 : Shape := ⟨2, ![1536, 48]⟩
abbrev S48x5120 : Shape := ⟨2, ![48, 5120]⟩
abbrev S5120 : Shape := ⟨1, ![5120]⟩
abbrev S24x512x5120 : Shape := ⟨3, ![24, 512, 5120]⟩
abbrev S1x5120 : Shape := ⟨2, ![1, 5120]⟩
abbrev S24x512x12 : Shape := ⟨3, ![24, 512, 12]⟩
abbrev S12x128x40x128 : Shape := ⟨4, ![12, 128, 40, 128]⟩
abbrev S12x1x40x1 : Shape := ⟨4, ![12, 1, 40, 1]⟩
abbrev S24x512x12x128 : Shape := ⟨4, ![24, 512, 12, 128]⟩
abbrev S24x512x12x1 : Shape := ⟨4, ![24, 512, 12, 1]⟩
abbrev S24x512x48 : Shape := ⟨3, ![24, 512, 48]⟩
abbrev S1x1x5120 : Shape := ⟨3, ![1, 1, 5120]⟩

abbrev nBuf : Space → Nat
  | .hbm => 10
  | .vmem => 10
  | .smem => 0
  | _ => 0

abbrev bufTy : (tb : Table) → Fin (tcTables nBuf tb) → BufTy
  | .hbm, ⟨0, _⟩ => ⟨S24x512x1536, .bf16⟩
  | .hbm, ⟨1, _⟩ => ⟨S1536x5120, .fp8e4m3⟩
  | .hbm, ⟨2, _⟩ => ⟨S12x40, .f32⟩
  | .hbm, ⟨3, _⟩ => ⟨S1536x48, .bf16⟩
  | .hbm, ⟨4, _⟩ => ⟨S48x5120, .bf16⟩
  | .hbm, ⟨5, _⟩ => ⟨S5120, .f32⟩
  | .hbm, ⟨6, _⟩ => ⟨S24x512x5120, .bf16⟩
  | .hbm, ⟨7, _⟩ => ⟨S1x5120, .f32⟩
  | .hbm, ⟨8, _⟩ => ⟨S24x512x1536, .fp8e4m3⟩
  | .hbm, ⟨9, _⟩ => ⟨S24x512x12, .f32⟩
  | .local _ .vmem, ⟨0, _⟩ => ⟨S24x512x1536, .bf16⟩
  | .local _ .vmem, ⟨1, _⟩ => ⟨S1536x5120, .fp8e4m3⟩
  | .local _ .vmem, ⟨2, _⟩ => ⟨S12x40, .f32⟩
  | .local _ .vmem, ⟨3, _⟩ => ⟨S1536x48, .bf16⟩
  | .local _ .vmem, ⟨4, _⟩ => ⟨S48x5120, .bf16⟩
  | .local _ .vmem, ⟨5, _⟩ => ⟨S5120, .f32⟩
  | .local _ .vmem, ⟨6, _⟩ => ⟨S24x512x5120, .bf16⟩
  | .local _ .vmem, ⟨7, _⟩ => ⟨S1x5120, .f32⟩
  | .local _ .vmem, ⟨8, _⟩ => ⟨S24x512x1536, .fp8e4m3⟩
  | .local _ .vmem, ⟨9, _⟩ => ⟨S24x512x12, .f32⟩
  | _, _ => ⟨S24x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S24x512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x512x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x512x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x512x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.RunB.lean ====
module

public import proofs.«01_k».proof.Proof.Gen.KernelIdeal
public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the kernel's `pl.when`, from the grid coordinates. -/
abbrev cond0_0 (i : grid0.Coords) : Prop := k0_cond1 i = 1#1

/-- The weights are prepared at grid point 0 alone. -/
theorem hcond0_0 : ∀ t : Fin grid0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp)

set_option maxHeartbeats 2000000 in
/-- The body's run at a grid point at which the weights stand prepared in the scratch: from the six inputs at their contents, the prepared weights `W` and the column factors `C`
    and the other buffers at any contents, the run ends with each written buffer at the listed pieces written over what it held. -/
def runB (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : ¬cond0_0 i)
    (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (W : Vec F S1792x5120 .bf16) (C : Vec F S1x5120 .f32) (G12 : BufTy.Contents (Elt F) arg12.view.ty) :
    Σ' (L7 : List (View.Piece (Elt F) S1x512x5120 .bf16)) (L9 : List (View.Piece (Elt F) S1x512x1536 .fp8e4m3)) (L10 : List (View.Piece (Elt F) S1x512x12 .f32)), { L12 : List (View.Piece (Elt F) S512x1792 .bf16) //
      ∀ (E : Set ℕ) (K : PUnit → sProp 𝕄) (f7 : BufTy.Contents (Elt F) arg7.view.ty) (f8 : BufTy.Contents (Elt F) arg8.view.ty) (f9 : BufTy.Contents (Elt F) arg9.view.ty) (f10 : BufTy.Contents (Elt F) arg10.view.ty),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} harg11.unread W) ∗ (arg12.view.loc (c : Thread nD τ) ↦[arg12.view.set]{fullShare} G12) ∗ (arg13.view.loc (c : Thread nD τ) ↦[arg13.view.set]{fullShare} harg13.unread C)
          ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} (arg7.view.writes (Elt F) f7 L7)) ∗ (arg8.view.loc (c : Thread nD τ) ↦[arg8.view.set]{fullShare} f8) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} harg11.unread W) ∗ (arg12.view.loc (c : Thread nD τ) ↦[arg12.view.set]{fullShare} (arg12.view.writes (Elt F) G12 L12)) ∗ (arg13.view.loc (c : Thread nD τ) ↦[arg13.view.set]{fullShare} harg13.unread C)) -∗ K ⟨⟩))
        ⊢ wp frame (wpE (defs₀ (F := F)) Variants.none c none) E (cc0_dora_linear (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K f7 f8 f9 f10 => ?run⟩
  case run =>
    simp only [cc0_dora_linear_eq_skeleton]; unfold cc0_dora_linear_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H1, H2, H3, H4, H5, H6, H7, H8, H9, H10, H11, H12, H13, Hk⟩
    sl_exec (disch := first | sl_exact hc0)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.KernelIdeal.Hand

end
-- ==== Proof.RunA.lean ====
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body's run at a grid point at which the weights are prepared: from the six inputs at their contents
    and the other buffers at any contents, the run ends with each written buffer at the listed pieces written over what it held. -/
def runA (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i)
    (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    Σ' (L7 : List (View.Piece (Elt F) S1x512x5120 .bf16)) (L8 : List (View.Piece (Elt F) S1x5120 .f32)) (L9 : List (View.Piece (Elt F) S1x512x1536 .fp8e4m3)) (L10 : List (View.Piece (Elt F) S1x512x12 .f32)) (L11 : List (View.Piece (Elt F) S1792x5120 .bf16)) (L12 : List (View.Piece (Elt F) S512x1792 .bf16)), { L13 : List (View.Piece (Elt F) S1x5120 .f32) //
      ∀ (E : Set ℕ) (K : PUnit → sProp 𝕄) (f7 : BufTy.Contents (Elt F) arg7.view.ty) (f9 : BufTy.Contents (Elt F) arg9.view.ty) (f10 : BufTy.Contents (Elt F) arg10.view.ty),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} f7) ∗ (arg8.view.loc (c : Thread nD τ) ↦[arg8.view.set]{fullShare} G8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13)
          ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} (arg7.view.writes (Elt F) f7 L7)) ∗ (arg8.view.loc (c : Thread nD τ) ↦[arg8.view.set]{fullShare} (arg8.view.writes (Elt F) G8 L8)) ∗ (arg9.view.loc (c : Thread nD τ) ↦[arg9.view.set]{fullShare} (arg9.view.writes (Elt F) f9 L9)) ∗ (arg10.view.loc (c : Thread nD τ) ↦[arg10.view.set]{fullShare} (arg10.view.writes (Elt F) f10 L10)) ∗ (arg11.view.loc (c : Thread nD τ) ↦[arg11.view.set]{fullShare} (arg11.view.writes (Elt F) G11 L11)) ∗ (arg12.view.loc (c : Thread nD τ) ↦[arg12.view.set]{fullShare} (arg12.view.writes (Elt F) G12 L12)) ∗ (arg13.view.loc (c : Thread nD τ) ↦[arg13.view.set]{fullShare} (arg13.view.writes (Elt F) G13 L13))) -∗ K ⟨⟩))
        ⊢ wp frame (wpE (defs₀ (F := F)) Variants.none c none) E (cc0_dora_linear (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K f7 f9 f10 => ?run⟩
  case run =>
    simp only [cc0_dora_linear_eq_skeleton]; unfold cc0_dora_linear_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H1, H2, H3, H4, H5, H6, H7, H8, H9, H10, H11, H12, H13, Hk⟩
    sl_exec (disch := first | sl_exact hc0)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.KernelIdeal.Hand

end
-- ==== Proof.Block.lean ====
module

public import proofs.«01_k».proof.Proof.RunA
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The quantiser of one group of 128 columns -/

/-- The exponents, one per row, of a group's block `v`. -/
def qExp (v : Vec F S1x512x128 .bf16) : IVec S512x1 32 :=
  k0_pay57 (k0_pay52 v) (k0_pay53 v) (k0_pay54 v) (k0_pay55 v) (k0_pay56 v)

/-- The bit patterns of the scales, one per row, of a group's block `v`. -/
def qBits (v : Vec F S1x512x128 .bf16) : IVec S512x1 32 :=
  k0_pay58 (k0_pay52 v) (k0_pay53 v) (k0_pay54 v) (k0_pay55 v) (k0_pay56 v)

/-- The codes of a group's block `v`. -/
def qCodes (v : Vec F S1x512x128 .bf16) : FVec F S1x512x128 .fp8e4m3 := k0_pay61 (k0_pay51 v) (qExp v)

/-- The codes of a group's block `v` times the group's scales, as the product reads them. -/
def qScaled (v : Vec F S1x512x128 .bf16) : FVec F S512x128 .bf16 := k0_pay62 (k0_pay51 v) (qExp v) (qBits v)

/-- A table of scales with column `g` replaced by the scales of the group's block `v`. -/
def qPut (g : BitVec 32) (v : Vec F S1x512x128 .bf16) (S : FVec F S512x12 .f32) : FVec F S512x12 .f32 :=
  select (cmpi .eq (iota .tc S512x12 32 [1] iota_S512x12_d1_w32) (broadcast S512x12 g))
    (broadcastTo S512x12 (shapeCast S512x1 (k0_pay59 (F := F) (qBits v)) shapeCasts_S512x1_S512x1) broadcasts_S512x1_S512x12) S

/-! ## What one grid point stores, as lists of pieces (last store first) -/

/-- Group `g`'s block of the input's block `x0`, as the body loads it. -/
def qLoad (x0 : Vec F S1x512x1536 .bf16) (o : ℕ) (h : ∀ a, (![0, 0, o] : Fin 3 → ℕ) a + S1x512x128.size a ≤ S1x512x1536.size a) :
    Vec F S1x512x128 .bf16 := View.ld x0 (Rect.unit ![0, 0, o] S1x512x128.size h)

/-- The codes' pieces: twelve groups of columns. -/
def codesL (x0 : Vec F S1x512x1536 .bf16) : List (View.Piece (Elt F) S1x512x1536 .fp8e4m3) :=
  [⟨Rect.unit ![0, 0, 1408] ![1, 512, 128] inb_S1x512x1536_S1x512x128_0_0_1408, qCodes (qLoad x0 1408 inb_S1x512x1536_S1x512x128_0_0_1408)⟩, ⟨Rect.unit ![0, 0, 1280] ![1, 512, 128] inb_S1x512x1536_S1x512x128_0_0_1280, qCodes (qLoad x0 1280 inb_S1x512x1536_S1x512x128_0_0_1280)⟩, ⟨Rect.unit ![0, 0, 1152] ![1, 512, 128] inb_S1x512x1536_S1x512x128_0_0_1152, qCodes (qLoad x0 1152 inb_S1x512x1536_S1x512x128_0_0_1152)⟩, ⟨Rect.unit ![0, 0, 1024] ![1, 512, 128] inb_S1x512x1536_S1x512x128_0_0_1024, qCodes (qLoad x0 1024 inb_S1x512x1536_S1x512x128_0_0_1024)⟩, ⟨Rect.unit ![0, 0, 896] ![1, 512, 128] inb_S1x512x1536_S1x512x128_0_0_896, qCodes (qLoad x0 896 inb_S1x512x1536_S1x512x128_0_0_896)⟩, ⟨Rect.unit ![0, 0, 768] ![1, 512, 128] inb_S1x512x1536_S1x512x128_0_0_768, qCodes (qLoad x0 768 inb_S1x512x1536_S1x512x128_0_0_768)⟩, ⟨Rect.unit ![0, 0, 640] ![1, 512, 128] inb_S1x512x1536_S1x512x128_0_0_640, qCodes (qLoad x0 640 inb_S1x512x1536_S1x512x128_0_0_640)⟩, ⟨Rect.unit ![0, 0, 512] ![1, 512, 128] inb_S1x512x1536_S1x512x128_0_0_512, qCodes (qLoad x0 512 inb_S1x512x1536_S1x512x128_0_0_512)⟩, ⟨Rect.unit ![0, 0, 384] ![1, 512, 128] inb_S1x512x1536_S1x512x128_0_0_384, qCodes (qLoad x0 384 inb_S1x512x1536_S1x512x128_0_0_384)⟩, ⟨Rect.unit ![0, 0, 256] ![1, 512, 128] inb_S1x512x1536_S1x512x128_0_0_256, qCodes (qLoad x0 256 inb_S1x512x1536_S1x512x128_0_0_256)⟩, ⟨Rect.unit ![0, 0, 128] ![1, 512, 128] inb_S1x512x1536_S1x512x128_0_0_128, qCodes (qLoad x0 128 inb_S1x512x1536_S1x512x128_0_0_128)⟩, ⟨Rect.unit ![0, 0, 0] ![1, 512, 128] inb_S1x512x1536_S1x512x128_0_0_0, qCodes (qLoad x0 0 inb_S1x512x1536_S1x512x128_0_0_0)⟩]

/-- The table of scales of the input's block `x0`. -/
def qTable (x0 : Vec F S1x512x1536 .bf16) : FVec F S512x12 .f32 :=
  (qPut 11#32 (qLoad x0 1408 inb_S1x512x1536_S1x512x128_0_0_1408) (qPut 10#32 (qLoad x0 1280 inb_S1x512x1536_S1x512x128_0_0_1280) (qPut 9#32 (qLoad x0 1152 inb_S1x512x1536_S1x512x128_0_0_1152) (qPut 8#32 (qLoad x0 1024 inb_S1x512x1536_S1x512x128_0_0_1024) (qPut 7#32 (qLoad x0 896 inb_S1x512x1536_S1x512x128_0_0_896) (qPut 6#32 (qLoad x0 768 inb_S1x512x1536_S1x512x128_0_0_768) (qPut 5#32 (qLoad x0 640 inb_S1x512x1536_S1x512x128_0_0_640) (qPut 4#32 (qLoad x0 512 inb_S1x512x1536_S1x512x128_0_0_512) (qPut 3#32 (qLoad x0 384 inb_S1x512x1536_S1x512x128_0_0_384) (qPut 2#32 (qLoad x0 256 inb_S1x512x1536_S1x512x128_0_0_256) (qPut 1#32 (qLoad x0 128 inb_S1x512x1536_S1x512x128_0_0_128) (qPut 0#32 (qLoad x0 0 inb_S1x512x1536_S1x512x128_0_0_0) k0_pay50))))))))))))

/-- The left factor's pieces: the low-rank product and zeros, then the twelve groups' scaled codes. -/
def lhsL (x0 : Vec F S1x512x1536 .bf16) (x3 : Vec F S1536x48 .bf16) : List (View.Piece (Elt F) S512x1792 .bf16) :=
  [⟨Rect.unit ![0, 1536] ![512, 256] inb_S512x1792_S512x256_0_1536, k0_pay219 (View.ld x0 (Rect.unit ![0, 0, 0] S1x512x1536.size inb_S1x512x1536_S1x512x1536_0_0_0)) (View.ld x3 (Rect.unit ![0, 0] S1536x48.size inb_S1536x48_S1536x48_0_0))⟩,
   ⟨Rect.unit ![0, 1408] ![512, 128] inb_S512x1792_S512x128_0_1408, qScaled (qLoad x0 1408 inb_S1x512x1536_S1x512x128_0_0_1408)⟩, ⟨Rect.unit ![0, 1280] ![512, 128] inb_S512x1792_S512x128_0_1280, qScaled (qLoad x0 1280 inb_S1x512x1536_S1x512x128_0_0_1280)⟩, ⟨Rect.unit ![0, 1152] ![512, 128] inb_S512x1792_S512x128_0_1152, qScaled (qLoad x0 1152 inb_S1x512x1536_S1x512x128_0_0_1152)⟩, ⟨Rect.unit ![0, 1024] ![512, 128] inb_S512x1792_S512x128_0_1024, qScaled (qLoad x0 1024 inb_S1x512x1536_S1x512x128_0_0_1024)⟩, ⟨Rect.unit ![0, 896] ![512, 128] inb_S512x1792_S512x128_0_896, qScaled (qLoad x0 896 inb_S1x512x1536_S1x512x128_0_0_896)⟩, ⟨Rect.unit ![0, 768] ![512, 128] inb_S512x1792_S512x128_0_768, qScaled (qLoad x0 768 inb_S1x512x1536_S1x512x128_0_0_768)⟩, ⟨Rect.unit ![0, 640] ![512, 128] inb_S512x1792_S512x128_0_640, qScaled (qLoad x0 640 inb_S1x512x1536_S1x512x128_0_0_640)⟩, ⟨Rect.unit ![0, 512] ![512, 128] inb_S512x1792_S512x128_0_512, qScaled (qLoad x0 512 inb_S1x512x1536_S1x512x128_0_0_512)⟩, ⟨Rect.unit ![0, 384] ![512, 128] inb_S512x1792_S512x128_0_384, qScaled (qLoad x0 384 inb_S1x512x1536_S1x512x128_0_0_384)⟩, ⟨Rect.unit ![0, 256] ![512, 128] inb_S512x1792_S512x128_0_256, qScaled (qLoad x0 256 inb_S1x512x1536_S1x512x128_0_0_256)⟩, ⟨Rect.unit ![0, 128] ![512, 128] inb_S512x1792_S512x128_0_128, qScaled (qLoad x0 128 inb_S1x512x1536_S1x512x128_0_0_128)⟩, ⟨Rect.unit ![0, 0] ![512, 128] inb_S512x1792_S512x128_0_0, qScaled (qLoad x0 0 inb_S1x512x1536_S1x512x128_0_0_0)⟩]

/-- The result's pieces: five tiles of columns, from the left factor `A`, the weights `W` and the column factors `C`. -/
def yL (A : Vec F S512x1792 .bf16) (W : Vec F S1792x5120 .bf16) (C : Vec F S1x5120 .f32) : List (View.Piece (Elt F) S1x512x5120 .bf16) :=
  [⟨Rect.unit ![0, 0, 4096] ![1, 512, 1024] inb_S1x512x5120_S1x512x1024_0_0_4096, k0_pay220 A (View.ld W (Rect.unit ![0, 4096] S1792x1024.size inb_S1792x5120_S1792x1024_0_4096)) (View.ld C (Rect.unit ![0, 4096] S1x1024.size inb_S1x5120_S1x1024_0_4096))⟩, ⟨Rect.unit ![0, 0, 3072] ![1, 512, 1024] inb_S1x512x5120_S1x512x1024_0_0_3072, k0_pay220 A (View.ld W (Rect.unit ![0, 3072] S1792x1024.size inb_S1792x5120_S1792x1024_0_3072)) (View.ld C (Rect.unit ![0, 3072] S1x1024.size inb_S1x5120_S1x1024_0_3072))⟩, ⟨Rect.unit ![0, 0, 2048] ![1, 512, 1024] inb_S1x512x5120_S1x512x1024_0_0_2048, k0_pay220 A (View.ld W (Rect.unit ![0, 2048] S1792x1024.size inb_S1792x5120_S1792x1024_0_2048)) (View.ld C (Rect.unit ![0, 2048] S1x1024.size inb_S1x5120_S1x1024_0_2048))⟩, ⟨Rect.unit ![0, 0, 1024] ![1, 512, 1024] inb_S1x512x5120_S1x512x1024_0_0_1024, k0_pay220 A (View.ld W (Rect.unit ![0, 1024] S1792x1024.size inb_S1792x5120_S1792x1024_0_1024)) (View.ld C (Rect.unit ![0, 1024] S1x1024.size inb_S1x5120_S1x1024_0_1024))⟩, ⟨Rect.unit ![0, 0, 0] ![1, 512, 1024] inb_S1x512x5120_S1x512x1024_0_0_0, k0_pay220 A (View.ld W (Rect.unit ![0, 0] S1792x1024.size inb_S1792x5120_S1792x1024_0_0)) (View.ld C (Rect.unit ![0, 0] S1x1024.size inb_S1x5120_S1x1024_0_0))⟩]

set_option maxHeartbeats 4000000 in
theorem runB_codes (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : ¬cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (W : Vec F S1792x5120 .bf16) (C : Vec F S1x5120 .f32) (G12 : BufTy.Contents (Elt F) arg12.view.ty) :
    (runB (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 W C G12).2.1 = codesL x0 := by
  unfold runB; dsimp only
  refine Eq.trans (b := codesL (View.read (Elt F) arg1.view (harg1.unread x0))) ?_ (by rw [harg1.read_unread])
  rfl

set_option maxHeartbeats 4000000 in
theorem runB_scales (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : ¬cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (W : Vec F S1792x5120 .bf16) (C : Vec F S1x5120 .f32) (G12 : BufTy.Contents (Elt F) arg12.view.ty) :
    (runB (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 W C G12).2.2.1 = [⟨Rect.unit ![0, 0, 0] ![1, 512, 12] inb_S1x512x12_S1x512x12_0_0_0, shapeCast S1x512x12 (qTable x0) shapeCasts_S512x12_S1x512x12⟩] := by
  unfold runB; dsimp only
  refine Eq.trans (b := [⟨Rect.unit ![0, 0, 0] ![1, 512, 12] inb_S1x512x12_S1x512x12_0_0_0, shapeCast S1x512x12 (qTable (View.read (Elt F) arg1.view (harg1.unread x0))) shapeCasts_S512x12_S1x512x12⟩]) ?_ (by rw [harg1.read_unread])
  rfl

set_option maxHeartbeats 4000000 in
theorem runA_codes (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    (runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 G8 G11 G12 G13).2.2.1 = codesL x0 := by
  unfold runA; dsimp only
  refine Eq.trans (b := codesL (View.read (Elt F) arg1.view (harg1.unread x0))) ?_ (by rw [harg1.read_unread])
  rfl

set_option maxHeartbeats 4000000 in
theorem runA_scales (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    (runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 G8 G11 G12 G13).2.2.2.1 = [⟨Rect.unit ![0, 0, 0] ![1, 512, 12] inb_S1x512x12_S1x512x12_0_0_0, shapeCast S1x512x12 (qTable x0) shapeCasts_S512x12_S1x512x12⟩] := by
  unfold runA; dsimp only
  refine Eq.trans (b := [⟨Rect.unit ![0, 0, 0] ![1, 512, 12] inb_S1x512x12_S1x512x12_0_0_0, shapeCast S1x512x12 (qTable (View.read (Elt F) arg1.view (harg1.unread x0))) shapeCasts_S512x12_S1x512x12⟩]) ?_ (by rw [harg1.read_unread])
  rfl

/-- The left factor one grid point multiplies: what its pieces leave. -/
def lhs (x0 : Vec F S1x512x1536 .bf16) (x3 : Vec F S1536x48 .bf16) : Vec F S512x1792 .bf16 := View.canon (lhsL x0 x3)

theorem readCov_lhs (arg12 : Memref sig .tc .vmem S512x1792 .bf16) (x0 : Vec F S1x512x1536 .bf16) (x3 : Vec F S1536x48 .bf16) :
    arg12.view.readCov (lhsL x0 x3) (Rect.unit ![0, 0] S512x1792.size inb_S512x1792_S512x1792_0_0).toLoadRect = lhs x0 x3 := by
  rw [View.readCov_eq_canon']
  exact View.ld_unit_zero (by funext a; fin_cases a <;> rfl) _ (lhs x0 x3)

set_option maxHeartbeats 4000000 in
theorem runB_y (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : ¬cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (W : Vec F S1792x5120 .bf16) (C : Vec F S1x5120 .f32) (G12 : BufTy.Contents (Elt F) arg12.view.ty) :
    (runB (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 W C G12).1 = yL (lhs x0 x3) W C := by
  unfold runB; dsimp only
  refine Eq.trans (b := yL (arg12.view.readCov (lhsL (View.read (Elt F) arg1.view (harg1.unread x0)) (View.read (Elt F) arg4.view (harg4.unread x3))) (Rect.unit ![0, 0] S512x1792.size inb_S512x1792_S512x1792_0_0).toLoadRect) (View.read (Elt F) arg11.view (harg11.unread W)) (View.read (Elt F) arg13.view (harg13.unread C))) ?_ (by rw [harg1.read_unread, harg4.read_unread, harg11.read_unread, harg13.read_unread, readCov_lhs])
  rfl

set_option maxHeartbeats 4000000 in
theorem runA_y (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    (runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 G8 G11 G12 G13).1 = yL (lhs x0 x3) (arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld x3 (Rect.unit ![0, 0] S1536x48.size inb_S1536x48_S1536x48_0_0)) (harg2.unread x1) (harg3.unread x2) (harg5.unread x4) (harg6.unread x5) 20).2.1)) (arg13.view.read (Elt F) (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld x3 (Rect.unit ![0, 0] S1536x48.size inb_S1536x48_S1536x48_0_0)) (harg2.unread x1) (harg3.unread x2) (harg5.unread x4) (harg6.unread x5) 20).2.2)) := by
  unfold runA; dsimp only
  refine Eq.trans (b := yL (arg12.view.readCov (lhsL (View.read (Elt F) arg1.view (harg1.unread x0)) (View.read (Elt F) arg4.view (harg4.unread x3))) (Rect.unit ![0, 0] S512x1792.size inb_S512x1792_S512x1792_0_0).toLoadRect) (arg11.view.read (Elt F) (arg11.view.writes (Elt F) G11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld (View.read (Elt F) arg4.view (harg4.unread x3)) (Rect.unit ![0, 0] S1536x48.size inb_S1536x48_S1536x48_0_0)) (harg2.unread x1) (harg3.unread x2) (harg5.unread x4) (harg6.unread x5) 20).2.1)) (arg13.view.read (Elt F) (arg13.view.writes (Elt F) G13 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld (View.read (Elt F) arg4.view (harg4.unread x3)) (Rect.unit ![0, 0] S1536x48.size inb_S1536x48_S1536x48_0_0)) (harg2.unread x1) (harg3.unread x2) (harg5.unread x4) (harg6.unread x5) 20).2.2))) ?_ (by rw [harg1.read_unread, harg4.read_unread, readCov_lhs])
  rfl

set_option maxHeartbeats 4000000 in
theorem runA_norm (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    (runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 G8 G11 G12 G13).2.1 = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld x3 (Rect.unit ![0, 0] S1536x48.size inb_S1536x48_S1536x48_0_0)) (harg2.unread x1) (harg3.unread x2) (harg5.unread x4) (harg6.unread x5) 20).1 := by
  unfold runA; dsimp only
  refine Eq.trans (b := (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld (View.read (Elt F) arg4.view (harg4.unread x3)) (Rect.unit ![0, 0] S1536x48.size inb_S1536x48_S1536x48_0_0)) (harg2.unread x1) (harg3.unread x2) (harg5.unread x4) (harg6.unread x5) 20).1) ?_ (by rw [harg4.read_unread])
  rfl

set_option maxHeartbeats 4000000 in
theorem runA_w (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    (runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 G8 G11 G12 G13).2.2.2.2.1 = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld x3 (Rect.unit ![0, 0] S1536x48.size inb_S1536x48_S1536x48_0_0)) (harg2.unread x1) (harg3.unread x2) (harg5.unread x4) (harg6.unread x5) 20).2.1 := by
  unfold runA; dsimp only
  refine Eq.trans (b := (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld (View.read (Elt F) arg4.view (harg4.unread x3)) (Rect.unit ![0, 0] S1536x48.size inb_S1536x48_S1536x48_0_0)) (harg2.unread x1) (harg3.unread x2) (harg5.unread x4) (harg6.unread x5) 20).2.1) ?_ (by rw [harg4.read_unread])
  rfl

set_option maxHeartbeats 4000000 in
theorem runA_c (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (G8 : BufTy.Contents (Elt F) arg8.view.ty) (G11 : BufTy.Contents (Elt F) arg11.view.ty) (G12 : BufTy.Contents (Elt F) arg12.view.ty) (G13 : BufTy.Contents (Elt F) arg13.view.ty) :
    (runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 G8 G11 G12 G13).2.2.2.2.2.2.1 = (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld x3 (Rect.unit ![0, 0] S1536x48.size inb_S1536x48_S1536x48_0_0)) (harg2.unread x1) (harg3.unread x2) (harg5.unread x4) (harg6.unread x5) 20).2.2 := by
  unfold runA; dsimp only
  refine Eq.trans (b := (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 (View.ld (View.read (Elt F) arg4.view (harg4.unread x3)) (Rect.unit ![0, 0] S1536x48.size inb_S1536x48_S1536x48_0_0)) (harg2.unread x1) (harg3.unread x2) (harg5.unread x4) (harg6.unread x5) 20).2.2) ?_ (by rw [harg4.read_unread])
  rfl

end Cert.KernelIdeal.Hand

end
-- ==== Proof.Spec.lean ====
module

public import Idealize.ShloMosaic.Lib.Pointwise

@[expose] public section

noncomputable section

/-! # The mathematics both programs compute, over plain index functions -/

namespace Cert.Dora

open Idealize.ShloMosaic

/-! ## The quantiser of a group of 128 entries -/

/-- The largest magnitude of a group. -/
def amax (x : Fin 128 → EReal) : EReal :=
  Finset.fold max (Ideal.ofBits .f32 0xFF800000#32) (fun l => FloatOps.absf (F := Ideal) (φ := .f32) (x l)) Finset.univ

/-- The largest magnitude over the largest code. -/
def level (x : Fin 128 → EReal) : EReal := amax x * Ideal.ofBits .f32 0x3B124925#32

/-- One step of the kernel's search for the exponent field of `t`: `f + b` if the number with that field and
    no mantissa is at most `t`, else `f`. -/
def step (b : BitVec 32) (t : EReal) (f : BitVec 32) : BitVec 32 :=
  Scalar.select (FloatOps.cmpf (F := Ideal) (φ := .f32) .ole (FloatOps.ofBits (F := Ideal) .f32 (IntOp.shli .vector (IntOp.addi f b) 23#32)) t)
    (IntOp.addi f b) f

/-- The exponent field of `t`, by eight steps of bisection. -/
def field (t : EReal) : BitVec 32 :=
  step 1#32 t (step 2#32 t (step 4#32 t (step 8#32 t (step 16#32 t (step 32#32 t (step 64#32 t (step 128#32 t 0#32)))))))

/-- The kernel's exponent of a group whose largest magnitude is `a` and whose level has exponent field `f`. -/
def expOf (a : EReal) (f : BitVec 32) : BitVec 32 :=
  Scalar.select (IntOp.ori (IntOp.ori (IntOp.cmpi .eq f 0#32) (IntOp.cmpi .eq f 255#32)) (FloatOps.cmpf (F := Ideal) (φ := .f32) .oeq a (FloatOps.ofBits (F := Ideal) .f32 0x00000000#32)))
    0#32 (IntOp.subi f 126#32)

/-- The kernel's exponent of a group. -/
def kexp (x : Fin 128 → EReal) : BitVec 32 := expOf (amax x) (field (level x))

/-- The kernel's scale of a group. -/
def kscale (x : Fin 128 → EReal) : EReal := Ideal.ofBits .f32 (IntOp.shli .vector (IntOp.addi 127#32 (kexp x)) 23#32)

/-- The kernel's inverse scale of a group. -/
def kinv (x : Fin 128 → EReal) : EReal := Ideal.ofBits .f32 (IntOp.shli .vector (IntOp.subi 127#32 (kexp x)) 23#32)

/-- A number clamped to the codes' range. -/
def clamp (z : EReal) : EReal := min (Ideal.ofBits .f32 0x43E00000#32) (max (Ideal.ofBits .f32 0xC3E00000#32) z)

/-- Group `g` of a row of 1536 entries. -/
def seg (x : Fin 1536 → EReal) (g : Fin 12) : Fin 128 → EReal := fun l => x ⟨g.val * 128 + l.val, by omega⟩

/-- The group of an entry of a row. -/
def grp (j : Fin 1536) : Fin 12 := ⟨j.val / 128, by omega⟩

/-- The kernel's codes of a row. -/
def kcode (x : Fin 1536 → EReal) (j : Fin 1536) : EReal := clamp (x j * kinv (seg x (grp j)))

/-- The kernel's left factor at a row: the scaled codes, the low-rank product with the columns of `d`, zeros. -/
def klhs (x : Fin 1536 → EReal) (d : Fin 1536 → Fin 48 → EReal) (k : Fin 1792) : EReal :=
  if h : k.val < 1536 then kcode x ⟨k.val, h⟩ * kscale (seg x (grp ⟨k.val, h⟩))
  else if h : k.val - 1536 < 48 then ∑ q, x q * d q ⟨k.val - 1536, h⟩ else 0

/-- The kernel's result at a row and a column: the left factor `a` times the column `w` of weights, times the column's factor. -/
def ky (a : Fin 1792 → EReal) (w : Fin 1792 → EReal) (c : EReal) : EReal := (∑ k, a k * w k) * c

/-! ## The weights -/

/-- One half, the low-rank factor's weight. -/
def half : EReal := Ideal.ofBits .f32 0x3F000000#32

/-- One half, as the weights' own format spells it. -/
def halfb : EReal := Ideal.ofBits .bf16 0x3F00#16

/-- The base weights: codes times the scale of their 128 by 128 block. -/
def w0 (wc : Fin 1536 → Fin 5120 → EReal) (ws : Fin 12 → Fin 40 → EReal) (r : Fin 1536) (j : Fin 5120) : EReal :=
  wc r j * ws (grp r) ⟨j.val / 128, by omega⟩

/-- The merged weights: base plus half the low-rank product. -/
def merged (wc : Fin 1536 → Fin 5120 → EReal) (ws : Fin 12 → Fin 40 → EReal) (d : Fin 1536 → Fin 48 → EReal)
    (u : Fin 48 → Fin 5120 → EReal) (j : Fin 5120) (r : Fin 1536) : EReal :=
  w0 wc ws r j + half * ∑ q, d r q * u q j

/-- The norm of a column of the merged weights. -/
def norm (wc : Fin 1536 → Fin 5120 → EReal) (ws : Fin 12 → Fin 40 → EReal) (d : Fin 1536 → Fin 48 → EReal)
    (u : Fin 48 → Fin 5120 → EReal) (j : Fin 5120) : EReal :=
  Ideal.sqrt (∑ r, merged wc ws d u j r * merged wc ws d u j r)

/-- The kernel's right factor: base weights, half the low-rank factor `u`, zeros. -/
def waug (wc : Fin 1536 → Fin 5120 → EReal) (ws : Fin 12 → Fin 40 → EReal) (u : Fin 48 → Fin 5120 → EReal)
    (k : Fin 1792) (j : Fin 5120) : EReal :=
  if h : k.val < 1536 then w0 wc ws ⟨k.val, h⟩ j
  else if h : k.val - 1536 < 48 then u ⟨k.val - 1536, h⟩ j * halfb else 0

/-- A sum over 1536 rows is the sum over twelve groups of 128. -/
theorem sum_groups (f : Fin 1536 → EReal) :
    ∑ r, f r = ∑ g : Fin 12, ∑ l : Fin 128, f ⟨g.val * 128 + l.val, by omega⟩ := by
  rw [← Fintype.sum_prod_type' (f := fun (g : Fin 12) (l : Fin 128) => f ⟨g.val * 128 + l.val, by omega⟩)]
  refine (Fintype.sum_equiv (finProdFinEquiv (m := 12) (n := 128)) _ _ fun p => ?_).symm
  congr 1
  apply Fin.ext
  show p.1.val * 128 + p.2.val = p.2.val + 128 * p.1.val
  omega

end Cert.Dora

end
-- ==== Proof.Quant.lean ====
module

public import proofs.«01_k».proof.Proof.Block
public import proofs.«01_k».proof.Proof.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.Dora

/-! ## The quantiser's block operations, entry by entry -/

/-- Row `r` of a group's block. -/
abbrev row (v : Vec Ideal S1x512x128 .bf16) (r : Fin 512) : Fin 128 → EReal := fun l => v (ix3 0 r l)

theorem k0_pay52_at (v : Vec Ideal S1x512x128 .bf16) (r : Fin 512) : k0_pay52 v (ix2 r 0) = amax (row v r) := by
  pointwise [k0_pay52, k0_pay51]
  rfl

theorem k0_pay53_at (v : Vec Ideal S1x512x128 .bf16) (r : Fin 512) : k0_pay53 v (ix2 r 0) = level (row v r) := by
  unfold level; rw [← k0_pay52_at]; rfl

theorem qExp_at (v : Vec Ideal S1x512x128 .bf16) (r : Fin 512) : qExp v (ix2 r 0) = kexp (row v r) := by
  unfold kexp; rw [← k0_pay52_at, ← k0_pay53_at]; rfl

theorem qBits_at (v : Vec Ideal S1x512x128 .bf16) (r : Fin 512) :
    qBits v (ix2 r 0) = IntOp.shli .vector (IntOp.addi 127#32 (kexp (row v r))) 23#32 := by
  rw [← qExp_at]; rfl

/-- A group's code. -/
theorem qCodes_at (v : Vec Ideal S1x512x128 .bf16) (r : Fin 512) (l : Fin 128) :
    qCodes v (ix3 0 r l) = clamp (v (ix3 0 r l) * kinv (row v r)) := by
  unfold kinv; rw [← qExp_at]; unfold qCodes
  pointwise [k0_pay61, k0_pay60, k0_pay51]
  rfl

theorem qScaled_at (v : Vec Ideal S1x512x128 .bf16) (r : Fin 512) (l : Fin 128) :
    qScaled v (ix2 r l) = clamp (v (ix3 0 r l) * kinv (row v r)) * kscale (row v r) := by
  unfold kinv kscale; rw [← qBits_at, ← qExp_at]; unfold qScaled
  pointwise [k0_pay62, k0_pay60, k0_pay59, k0_pay51]
  rfl

theorem qPut_at (g : BitVec 32) (v : Vec Ideal S1x512x128 .bf16) (T : FVec Ideal S512x12 .f32) (r : Fin 512) (l : Fin 12) :
    qPut g v T (ix2 r l) = if (BitVec.ofNat 32 l.val) = g then kscale (row v r) else T (ix2 r l) := by
  unfold kscale; rw [← qBits_at]; unfold qPut
  pointwise [k0_pay59]
  by_cases h : BitVec.ofNat 32 l.val = g
  · simp [h, Scalar.select, IntOp.cmpi]
  · rw [if_neg h]; unfold Scalar.select IntOp.cmpi
    rw [if_neg]
    rw [beq_eq_false_iff_ne.mpr h]; show ¬ BitVec.ofBool false = 1#1; decide

/-! ## Each stored buffer, entry by entry -/

theorem row_qLoad (x0 : Vec Ideal S1x512x1536 .bf16) (g : Fin 12) (o : ℕ) (ho : o = g.val * 128) (h) (r : Fin 512) :
    row (qLoad x0 o h) r = seg (fun j => x0 (ix3 0 r j)) g := by
  subst ho
  funext l
  unfold row qLoad seg
  show x0 _ = x0 _
  congr 1
  funext a
  apply Fin.ext
  rw [Rect.idx_unit_val]
  fin_cases a <;> simp [ix3]

theorem qLoad_at (x0 : Vec Ideal S1x512x1536 .bf16) (g : Fin 12) (o : ℕ) (ho : o = g.val * 128) (h) (r : Fin 512) (l : Fin 128) :
    qLoad x0 o h (ix3 0 r l) = x0 (ix3 0 r ⟨g.val * 128 + l.val, by omega⟩) :=
  congrFun (row_qLoad x0 g o ho h r) l

theorem grp_at (g : Fin 12) (l : Fin 128) (h) : grp ⟨g.val * 128 + l.val, h⟩ = g := by
  apply Fin.ext; show (g.val * 128 + l.val) / 128 = g.val; omega

theorem codes_tile (x0 : Vec Ideal S1x512x1536 .bf16) (g : Fin 12) (o : ℕ) (ho : o = g.val * 128) (h) (z : S1x512x128.Idx)
    (b : Fin 512) (c : Fin 1536) (h1 : b.val = (z 1).val) (h2 : c.val = o + (z 2).val) :
    qCodes (qLoad x0 o h) z = kcode (fun j => x0 (ix3 0 b j)) c := by
  idx_vars z
  obtain rfl : z0 = 0 := Subsingleton.elim _ _
  obtain rfl : b = z1 := Fin.ext h1
  have hb : g.val * 128 + z2.val < 1536 := by omega
  obtain rfl : c = ⟨g.val * 128 + z2.val, hb⟩ := Fin.ext (h2.trans (congrArg (· + z2.val) ho))
  rw [qCodes_at, row_qLoad x0 g o ho, qLoad_at x0 g o ho]
  unfold kcode
  rw [grp_at g z2]

/-- The codes one grid point leaves. -/
theorem codes_eq (x0 : Vec Ideal S1x512x1536 .bf16) (y : S1x512x1536.Idx) :
    View.canon (codesL x0) y = kcode (fun j => x0 (ix3 0 (y 1) j)) (y 2) := by
  unfold codesL
  canon_tiles x hx
  · exact codes_tile x0 11 _ rfl _ x (y 1) (y 2) hx1 (by omega)
  · exact codes_tile x0 10 _ rfl _ x (y 1) (y 2) hx1 (by omega)
  · exact codes_tile x0 9 _ rfl _ x (y 1) (y 2) hx1 (by omega)
  · exact codes_tile x0 8 _ rfl _ x (y 1) (y 2) hx1 (by omega)
  · exact codes_tile x0 7 _ rfl _ x (y 1) (y 2) hx1 (by omega)
  · exact codes_tile x0 6 _ rfl _ x (y 1) (y 2) hx1 (by omega)
  · exact codes_tile x0 5 _ rfl _ x (y 1) (y 2) hx1 (by omega)
  · exact codes_tile x0 4 _ rfl _ x (y 1) (y 2) hx1 (by omega)
  · exact codes_tile x0 3 _ rfl _ x (y 1) (y 2) hx1 (by omega)
  · exact codes_tile x0 2 _ rfl _ x (y 1) (y 2) hx1 (by omega)
  · exact codes_tile x0 1 _ rfl _ x (y 1) (y 2) hx1 (by omega)
  · exact codes_tile x0 0 _ rfl _ x (y 1) (y 2) hx1 (by omega)

theorem scaled_tile (x0 : Vec Ideal S1x512x1536 .bf16) (d : Fin 1536 → Fin 48 → EReal) (g : Fin 12) (o : ℕ) (ho : o = g.val * 128) (h) (z : S512x128.Idx)
    (b : Fin 512) (c : Fin 1792) (h1 : b.val = (z 0).val) (h2 : c.val = o + (z 1).val) :
    qScaled (qLoad x0 o h) z = klhs (fun j => x0 (ix3 0 b j)) d c := by
  idx_vars z
  obtain rfl : b = z0 := Fin.ext h1
  have hb : g.val * 128 + z1.val < 1792 := by omega
  obtain rfl : c = ⟨g.val * 128 + z1.val, hb⟩ := Fin.ext (h2.trans (congrArg (· + z1.val) ho))
  rw [qScaled_at, row_qLoad x0 g o ho, qLoad_at x0 g o ho]
  unfold klhs kcode
  rw [dif_pos (show g.val * 128 + z1.val < 1536 by omega), grp_at g z1]

theorem low_tile (x0 : Vec Ideal S1x512x1536 .bf16) (x3 : Vec Ideal S1536x48 .bf16) (z : S512x256.Idx)
    (b : Fin 512) (c : Fin 1792) (h1 : b.val = (z 0).val) (h2 : c.val = 1536 + (z 1).val) :
    k0_pay219 x0 x3 z = klhs (fun j => x0 (ix3 0 b j)) (fun q k => x3 (ix2 q k)) c := by
  idx_vars z
  obtain rfl : b = z0 := Fin.ext h1
  have hb : 1536 + z1.val < 1792 := by omega
  obtain rfl : c = ⟨1536 + z1.val, hb⟩ := Fin.ext h2
  unfold klhs
  rw [dif_neg (show ¬ 1536 + z1.val < 1536 by omega)]
  pointwise [k0_pay219]

/-- The left factor one grid point multiplies. -/
theorem lhs_eq (x0 : Vec Ideal S1x512x1536 .bf16) (x3 : Vec Ideal S1536x48 .bf16) (y : S512x1792.Idx) :
    lhs x0 x3 y = klhs (fun j => x0 (ix3 0 (y 0) j)) (fun q k => x3 (ix2 q k)) (y 1) := by
  unfold lhs lhsL
  canon_tiles x hx using View.cover_of_tiledBy _ ![512, 128] (by sl_kernel_rfl) _
  · rw [View.ld_unit_zero (by funext a; fin_cases a <;> rfl) _ x0, View.ld_unit_zero (by funext a; fin_cases a <;> rfl) _ x3]
    exact low_tile x0 x3 x (y 0) (y 1) hx0 (by omega)
  · exact scaled_tile x0 _ 11 _ rfl _ x (y 0) (y 1) hx0 (by omega)
  · exact scaled_tile x0 _ 10 _ rfl _ x (y 0) (y 1) hx0 (by omega)
  · exact scaled_tile x0 _ 9 _ rfl _ x (y 0) (y 1) hx0 (by omega)
  · exact scaled_tile x0 _ 8 _ rfl _ x (y 0) (y 1) hx0 (by omega)
  · exact scaled_tile x0 _ 7 _ rfl _ x (y 0) (y 1) hx0 (by omega)
  · exact scaled_tile x0 _ 6 _ rfl _ x (y 0) (y 1) hx0 (by omega)
  · exact scaled_tile x0 _ 5 _ rfl _ x (y 0) (y 1) hx0 (by omega)
  · exact scaled_tile x0 _ 4 _ rfl _ x (y 0) (y 1) hx0 (by omega)
  · exact scaled_tile x0 _ 3 _ rfl _ x (y 0) (y 1) hx0 (by omega)
  · exact scaled_tile x0 _ 2 _ rfl _ x (y 0) (y 1) hx0 (by omega)
  · exact scaled_tile x0 _ 1 _ rfl _ x (y 0) (y 1) hx0 (by omega)
  · exact scaled_tile x0 _ 0 _ rfl _ x (y 0) (y 1) hx0 (by omega)

/-- The scales one grid point leaves. -/
theorem qTable_at (x0 : Vec Ideal S1x512x1536 .bf16) (r : Fin 512) (g : Fin 12) :
    qTable x0 (ix2 r g) = kscale (seg (fun j => x0 (ix3 0 r j)) g) := by
  unfold qTable
  simp only [qPut_at]
  rw [row_qLoad x0 0 0 rfl]
  rw [row_qLoad x0 1 128 rfl]
  rw [row_qLoad x0 2 256 rfl]
  rw [row_qLoad x0 3 384 rfl]
  rw [row_qLoad x0 4 512 rfl]
  rw [row_qLoad x0 5 640 rfl]
  rw [row_qLoad x0 6 768 rfl]
  rw [row_qLoad x0 7 896 rfl]
  rw [row_qLoad x0 8 1024 rfl]
  rw [row_qLoad x0 9 1152 rfl]
  rw [row_qLoad x0 10 1280 rfl]
  rw [row_qLoad x0 11 1408 rfl]
  fin_cases g <;> simp

theorem scales_eq (x0 : Vec Ideal S1x512x1536 .bf16) (y : S1x512x12.Idx) :
    View.canon ([⟨Rect.unit ![0, 0, 0] ![1, 512, 12] inb_S1x512x12_S1x512x12_0_0_0, shapeCast S1x512x12 (qTable x0) shapeCasts_S512x12_S1x512x12⟩] : List (View.Piece (Elt Ideal) S1x512x12 .f32)) y
      = kscale (seg (fun j => x0 (ix3 0 (y 1) j)) (y 2)) := by
  canon_tiles z hz
  have e : ∀ (r : Fin 512) (g : Fin 12), shapeCast S1x512x12 (qTable x0) shapeCasts_S512x12_S1x512x12 (ix3 0 r g) = kscale (seg (fun j => x0 (ix3 0 r j)) g) := by
    intro r g
    rw [← qTable_at]
    pointwise []
  refine Eq.trans (congrArg _ ?_) (e (y 1) (y 2))
  funext a; apply Fin.ext; fin_cases a
  · exact congrArg Fin.val (Subsingleton.elim (α := Fin 1) _ _)
  · exact hz1.symm
  · exact hz2.symm

theorem y_tile (A : Vec Ideal S512x1792 .bf16) (W : Vec Ideal S1792x5120 .bf16) (C : Vec Ideal S1x5120 .f32) (o : ℕ) (h h') (z : S1x512x1024.Idx)
    (b : Fin 512) (c : Fin 5120) (h1 : b.val = (z 1).val) (h2 : c.val = o + (z 2).val) :
    k0_pay220 A (View.ld W (Rect.unit ![0, o] S1792x1024.size h)) (View.ld C (Rect.unit ![0, o] S1x1024.size h')) z
      = ky (fun k => A (ix2 b k)) (fun k => W (ix2 k c)) (C (ix2 0 c)) := by
  idx_vars z
  obtain rfl : z0 = 0 := Subsingleton.elim _ _
  obtain rfl : b = z1 := Fin.ext h1
  have h2' : c.val = o + z2.val := h2
  have eW : ∀ k : Fin 1792, View.ld W (Rect.unit ![0, o] S1792x1024.size h) (ix2 k z2) = W (ix2 k c) := fun k => by
    show W _ = W _
    congr 1; funext a; apply Fin.ext; rw [Rect.idx_unit_val]; fin_cases a
    · simp [ix2]
    · simp [ix2, h2']
  have eC : View.ld C (Rect.unit ![0, o] S1x1024.size h') (ix2 0 z2) = C (ix2 0 c) := by
    show C _ = C _
    congr 1; funext a; apply Fin.ext; rw [Rect.idx_unit_val]; fin_cases a
    · simp [ix2]
    · simp [ix2, h2']
  unfold ky
  simp only [← eW, ← eC]
  pointwise [k0_pay220]

/-- The result one grid point leaves. -/
theorem y_eq (A : Vec Ideal S512x1792 .bf16) (W : Vec Ideal S1792x5120 .bf16) (C : Vec Ideal S1x5120 .f32) (y : S1x512x5120.Idx) :
    View.canon (yL A W C) y = ky (fun k => A (ix2 (y 1) k)) (fun k => W (ix2 k (y 2))) (C (ix2 0 (y 2))) := by
  unfold yL
  canon_tiles x hx
  all_goals exact y_tile A W C _ _ _ x (y 1) (y 2) hx1 (by omega)

end Cert.KernelIdeal.Hand

end
-- ==== Proof.Prep.lean ====
module

public import proofs.«01_k».proof.Proof.Block
public import proofs.«01_k».proof.Proof.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What one trip of the preparation stores -/

/-- A scale read at an offset of the table of scales. -/
def scl (x2 : Vec F S12x40 .f32) (off : Fin 2 → ℕ) (h : ∀ a, off a + S1x1.size a ≤ S12x40.size a) : Elt F .f32 :=
  View.ld x2 (Rect.unit off S1x1.size h) (Shape.Idx.first (s := S1x1) (by decide))

/-- A tile of 128 rows and 256 columns of the base codes. -/
def tile (x1 : Vec F S1536x5120 .fp8e4m3) (off : Fin 2 → ℕ) (h : ∀ a, off a + S128x256.size a ≤ S1536x5120.size a) : Vec F S128x256 .fp8e4m3 :=
  View.ld x1 (Rect.unit off S128x256.size h)

/-- The low-rank factor's columns of a trip. -/
def upT (x4 : Vec F S48x5120 .bf16) (off : Fin 2 → ℕ) (h : ∀ a, off a + S48x256.size a ≤ S48x5120.size a) : Vec F S48x256 .bf16 :=
  View.ld x4 (Rect.unit off S48x256.size h)

/-- The low-rank product of 128 rows. -/
def low (D : Vec F S1536x48 .bf16) (U : Vec F S48x256 .bf16) (o : ℕ) (h : S1536x48.Slices ![o, 0] S128x48) : FVec F S128x256 .f32 :=
  matmul dot_S128x48_S48x256_S128x256_1_0_0_1_n_n none (extractStridedSlice S128x48 ![o, 0] D h) U (constant S128x256 .f32 0x00000000#32)

/-- The squares of the merged weights summed over the first 128 rows, for a trip's columns. -/
def acc0 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (broadcast S1x256 (Scalar.ofBits .f32 0x00000000#32)) (low D (upT x4 (k0_off1 k) (k0_off1_inb i k hc0)) 0 slices_S1536x48_o0_0_S128x48) (scl x2 (k0_off2 k 0#32) (k0_off2_inb i k hc0 0)) (scl x2 (k0_off2 k 1#32) (k0_off2_inb i k hc0 1)) (tile x1 (k0_off3 k) (k0_off3_inb i k hc0))

/-- The squares of the merged weights summed over the first 256 rows, for a trip's columns. -/
def acc1 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc0 i hc0 x1 x2 D x4 k) (low D (upT x4 (k0_off1 k) (k0_off1_inb i k hc0)) 128 slices_S1536x48_o128_0_S128x48) (scl x2 (k0_off5 k 0#32) (k0_off5_inb i k hc0 0)) (scl x2 (k0_off5 k 1#32) (k0_off5_inb i k hc0 1)) (tile x1 (k0_off6 k) (k0_off6_inb i k hc0))

/-- The squares of the merged weights summed over the first 384 rows, for a trip's columns. -/
def acc2 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc1 i hc0 x1 x2 D x4 k) (low D (upT x4 (k0_off1 k) (k0_off1_inb i k hc0)) 256 slices_S1536x48_o256_0_S128x48) (scl x2 (k0_off8 k 0#32) (k0_off8_inb i k hc0 0)) (scl x2 (k0_off8 k 1#32) (k0_off8_inb i k hc0 1)) (tile x1 (k0_off9 k) (k0_off9_inb i k hc0))

/-- The squares of the merged weights summed over the first 512 rows, for a trip's columns. -/
def acc3 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc2 i hc0 x1 x2 D x4 k) (low D (upT x4 (k0_off1 k) (k0_off1_inb i k hc0)) 384 slices_S1536x48_o384_0_S128x48) (scl x2 (k0_off11 k 0#32) (k0_off11_inb i k hc0 0)) (scl x2 (k0_off11 k 1#32) (k0_off11_inb i k hc0 1)) (tile x1 (k0_off12 k) (k0_off12_inb i k hc0))

/-- The squares of the merged weights summed over the first 640 rows, for a trip's columns. -/
def acc4 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc3 i hc0 x1 x2 D x4 k) (low D (upT x4 (k0_off1 k) (k0_off1_inb i k hc0)) 512 slices_S1536x48_o512_0_S128x48) (scl x2 (k0_off14 k 0#32) (k0_off14_inb i k hc0 0)) (scl x2 (k0_off14 k 1#32) (k0_off14_inb i k hc0 1)) (tile x1 (k0_off15 k) (k0_off15_inb i k hc0))

/-- The squares of the merged weights summed over the first 768 rows, for a trip's columns. -/
def acc5 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc4 i hc0 x1 x2 D x4 k) (low D (upT x4 (k0_off1 k) (k0_off1_inb i k hc0)) 640 slices_S1536x48_o640_0_S128x48) (scl x2 (k0_off17 k 0#32) (k0_off17_inb i k hc0 0)) (scl x2 (k0_off17 k 1#32) (k0_off17_inb i k hc0 1)) (tile x1 (k0_off18 k) (k0_off18_inb i k hc0))

/-- The squares of the merged weights summed over the first 896 rows, for a trip's columns. -/
def acc6 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc5 i hc0 x1 x2 D x4 k) (low D (upT x4 (k0_off1 k) (k0_off1_inb i k hc0)) 768 slices_S1536x48_o768_0_S128x48) (scl x2 (k0_off20 k 0#32) (k0_off20_inb i k hc0 0)) (scl x2 (k0_off20 k 1#32) (k0_off20_inb i k hc0 1)) (tile x1 (k0_off21 k) (k0_off21_inb i k hc0))

/-- The squares of the merged weights summed over the first 1024 rows, for a trip's columns. -/
def acc7 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc6 i hc0 x1 x2 D x4 k) (low D (upT x4 (k0_off1 k) (k0_off1_inb i k hc0)) 896 slices_S1536x48_o896_0_S128x48) (scl x2 (k0_off23 k 0#32) (k0_off23_inb i k hc0 0)) (scl x2 (k0_off23 k 1#32) (k0_off23_inb i k hc0 1)) (tile x1 (k0_off24 k) (k0_off24_inb i k hc0))

/-- The squares of the merged weights summed over the first 1152 rows, for a trip's columns. -/
def acc8 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc7 i hc0 x1 x2 D x4 k) (low D (upT x4 (k0_off1 k) (k0_off1_inb i k hc0)) 1024 slices_S1536x48_o1024_0_S128x48) (scl x2 (k0_off26 k 0#32) (k0_off26_inb i k hc0 0)) (scl x2 (k0_off26 k 1#32) (k0_off26_inb i k hc0 1)) (tile x1 (k0_off27 k) (k0_off27_inb i k hc0))

/-- The squares of the merged weights summed over the first 1280 rows, for a trip's columns. -/
def acc9 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc8 i hc0 x1 x2 D x4 k) (low D (upT x4 (k0_off1 k) (k0_off1_inb i k hc0)) 1152 slices_S1536x48_o1152_0_S128x48) (scl x2 (k0_off29 k 0#32) (k0_off29_inb i k hc0 0)) (scl x2 (k0_off29 k 1#32) (k0_off29_inb i k hc0 1)) (tile x1 (k0_off30 k) (k0_off30_inb i k hc0))

/-- The squares of the merged weights summed over the first 1408 rows, for a trip's columns. -/
def acc10 (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay8 (acc9 i hc0 x1 x2 D x4 k) (low D (upT x4 (k0_off1 k) (k0_off1_inb i k hc0)) 1280 slices_S1536x48_o1280_0_S128x48) (scl x2 (k0_off32 k 0#32) (k0_off32_inb i k hc0 0)) (scl x2 (k0_off32 k 1#32) (k0_off32_inb i k hc0 1)) (tile x1 (k0_off33 k) (k0_off33_inb i k hc0))

/-- The norms of a trip's columns. -/
def nrmT (i : grid0.Coords) (hc0 : cond0_0 i) (x1 : Vec F S1536x5120 .fp8e4m3) (x2 : Vec F S12x40 .f32) (D : Vec F S1536x48 .bf16) (x4 : Vec F S48x5120 .bf16) (k : Fin k0_t1_loop.trips) : FVec F S1x256 .f32 :=
  k0_pay45 (acc10 i hc0 x1 x2 D x4 k) (low D (upT x4 (k0_off1 k) (k0_off1_inb i k hc0)) 1408 slices_S1536x48_o1408_0_S128x48) (scl x2 (k0_off35 k 0#32) (k0_off35_inb i k hc0 0)) (scl x2 (k0_off35 k 1#32) (k0_off35_inb i k hc0 1)) (tile x1 (k0_off36 k) (k0_off36_inb i k hc0))

/-- The column factors of a trip's columns. -/
def facT (i : grid0.Coords) (hc0 : cond0_0 i) (x1 : Vec F S1536x5120 .fp8e4m3) (x2 : Vec F S12x40 .f32) (D : Vec F S1536x48 .bf16) (x4 : Vec F S48x5120 .bf16) (k : Fin k0_t1_loop.trips) (x5 : Vec F S1x5120 .f32) : FVec F S1x256 .f32 :=
  k0_pay46 (acc10 i hc0 x1 x2 D x4 k) (low D (upT x4 (k0_off1 k) (k0_off1_inb i k hc0)) 1408 slices_S1536x48_o1408_0_S128x48) (scl x2 (k0_off35 k 0#32) (k0_off35_inb i k hc0 0)) (scl x2 (k0_off35 k 1#32) (k0_off35_inb i k hc0 1)) (tile x1 (k0_off36 k) (k0_off36_inb i k hc0)) (View.ld x5 (Rect.unit (k0_off38 k) S1x256.size (k0_off38_inb i k hc0)))

/-- The right factor's pieces of a trip: zeros, the low-rank factor halved, the twelve groups' base weights. -/
def wL (i : grid0.Coords) (hc0 : cond0_0 i) (x1 : Vec F S1536x5120 .fp8e4m3) (x2 : Vec F S12x40 .f32) (x4 : Vec F S48x5120 .bf16) (k : Fin k0_t1_loop.trips) :
    List (View.Piece (Elt F) S1792x5120 .bf16) :=
  [⟨Rect.unit (k0_off40 k) ![208, 256] (k0_off40_inb i k hc0), k0_pay49 k0_pay48⟩,
   ⟨Rect.unit (k0_off39 k) ![48, 256] (k0_off39_inb i k hc0), k0_pay47 (upT x4 (k0_off1 k) (k0_off1_inb i k hc0))⟩,
   ⟨Rect.unit (k0_off37 k) ![128, 256] (k0_off37_inb i k hc0), k0_pay3 (scl x2 (k0_off35 k 0#32) (k0_off35_inb i k hc0 0)) (scl x2 (k0_off35 k 1#32) (k0_off35_inb i k hc0 1)) (tile x1 (k0_off36 k) (k0_off36_inb i k hc0))⟩,
   ⟨Rect.unit (k0_off34 k) ![128, 256] (k0_off34_inb i k hc0), k0_pay3 (scl x2 (k0_off32 k 0#32) (k0_off32_inb i k hc0 0)) (scl x2 (k0_off32 k 1#32) (k0_off32_inb i k hc0 1)) (tile x1 (k0_off33 k) (k0_off33_inb i k hc0))⟩,
   ⟨Rect.unit (k0_off31 k) ![128, 256] (k0_off31_inb i k hc0), k0_pay3 (scl x2 (k0_off29 k 0#32) (k0_off29_inb i k hc0 0)) (scl x2 (k0_off29 k 1#32) (k0_off29_inb i k hc0 1)) (tile x1 (k0_off30 k) (k0_off30_inb i k hc0))⟩,
   ⟨Rect.unit (k0_off28 k) ![128, 256] (k0_off28_inb i k hc0), k0_pay3 (scl x2 (k0_off26 k 0#32) (k0_off26_inb i k hc0 0)) (scl x2 (k0_off26 k 1#32) (k0_off26_inb i k hc0 1)) (tile x1 (k0_off27 k) (k0_off27_inb i k hc0))⟩,
   ⟨Rect.unit (k0_off25 k) ![128, 256] (k0_off25_inb i k hc0), k0_pay3 (scl x2 (k0_off23 k 0#32) (k0_off23_inb i k hc0 0)) (scl x2 (k0_off23 k 1#32) (k0_off23_inb i k hc0 1)) (tile x1 (k0_off24 k) (k0_off24_inb i k hc0))⟩,
   ⟨Rect.unit (k0_off22 k) ![128, 256] (k0_off22_inb i k hc0), k0_pay3 (scl x2 (k0_off20 k 0#32) (k0_off20_inb i k hc0 0)) (scl x2 (k0_off20 k 1#32) (k0_off20_inb i k hc0 1)) (tile x1 (k0_off21 k) (k0_off21_inb i k hc0))⟩,
   ⟨Rect.unit (k0_off19 k) ![128, 256] (k0_off19_inb i k hc0), k0_pay3 (scl x2 (k0_off17 k 0#32) (k0_off17_inb i k hc0 0)) (scl x2 (k0_off17 k 1#32) (k0_off17_inb i k hc0 1)) (tile x1 (k0_off18 k) (k0_off18_inb i k hc0))⟩,
   ⟨Rect.unit (k0_off16 k) ![128, 256] (k0_off16_inb i k hc0), k0_pay3 (scl x2 (k0_off14 k 0#32) (k0_off14_inb i k hc0 0)) (scl x2 (k0_off14 k 1#32) (k0_off14_inb i k hc0 1)) (tile x1 (k0_off15 k) (k0_off15_inb i k hc0))⟩,
   ⟨Rect.unit (k0_off13 k) ![128, 256] (k0_off13_inb i k hc0), k0_pay3 (scl x2 (k0_off11 k 0#32) (k0_off11_inb i k hc0 0)) (scl x2 (k0_off11 k 1#32) (k0_off11_inb i k hc0 1)) (tile x1 (k0_off12 k) (k0_off12_inb i k hc0))⟩,
   ⟨Rect.unit (k0_off10 k) ![128, 256] (k0_off10_inb i k hc0), k0_pay3 (scl x2 (k0_off8 k 0#32) (k0_off8_inb i k hc0 0)) (scl x2 (k0_off8 k 1#32) (k0_off8_inb i k hc0 1)) (tile x1 (k0_off9 k) (k0_off9_inb i k hc0))⟩,
   ⟨Rect.unit (k0_off7 k) ![128, 256] (k0_off7_inb i k hc0), k0_pay3 (scl x2 (k0_off5 k 0#32) (k0_off5_inb i k hc0 0)) (scl x2 (k0_off5 k 1#32) (k0_off5_inb i k hc0 1)) (tile x1 (k0_off6 k) (k0_off6_inb i k hc0))⟩,
   ⟨Rect.unit (k0_off4 k) ![128, 256] (k0_off4_inb i k hc0), k0_pay3 (scl x2 (k0_off2 k 0#32) (k0_off2_inb i k hc0 0)) (scl x2 (k0_off2 k 1#32) (k0_off2_inb i k hc0 1)) (tile x1 (k0_off3 k) (k0_off3_inb i k hc0))⟩]

set_option maxHeartbeats 4000000 in
theorem trip_w (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x1 : Vec F S1536x5120 .fp8e4m3) (x2 : Vec F S12x40 .f32) (D : Vec F S1536x48 .bf16) (x4 : Vec F S48x5120 .bf16) (x5 : Vec F S1x5120 .f32) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 D (harg2.unread x1) (harg3.unread x2) (harg5.unread x4) (harg6.unread x5) k).2.1 = wL i hc0 x1 x2 x4 k := by
  unfold trip_k0_t1; dsimp only
  refine Eq.trans (b := wL i hc0 (arg2.view.read (Elt F) (harg2.unread x1)) (arg3.view.read (Elt F) (harg3.unread x2)) (arg5.view.read (Elt F) (harg5.unread x4)) k) ?_ (by rw [harg2.read_unread, harg3.read_unread, harg5.read_unread])
  rfl

set_option maxHeartbeats 4000000 in
theorem trip_norm (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x1 : Vec F S1536x5120 .fp8e4m3) (x2 : Vec F S12x40 .f32) (D : Vec F S1536x48 .bf16) (x4 : Vec F S48x5120 .bf16) (x5 : Vec F S1x5120 .f32) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 D (harg2.unread x1) (harg3.unread x2) (harg5.unread x4) (harg6.unread x5) k).1 = [⟨Rect.unit (k0_off38 k) ![1, 256] (k0_off38_inb i k hc0), nrmT i hc0 x1 x2 D x4 k⟩] := by
  unfold trip_k0_t1; dsimp only
  refine Eq.trans (b := [⟨Rect.unit (k0_off38 k) ![1, 256] (k0_off38_inb i k hc0), nrmT i hc0 (arg2.view.read (Elt F) (harg2.unread x1)) (arg3.view.read (Elt F) (harg3.unread x2)) D (arg5.view.read (Elt F) (harg5.unread x4)) k⟩]) ?_ (by rw [harg2.read_unread, harg3.read_unread, harg5.read_unread])
  rfl

set_option maxHeartbeats 4000000 in
theorem trip_fac (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x1 : Vec F S1536x5120 .fp8e4m3) (x2 : Vec F S12x40 .f32) (D : Vec F S1536x48 .bf16) (x4 : Vec F S48x5120 .bf16) (x5 : Vec F S1x5120 .f32) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 hc0 D (harg2.unread x1) (harg3.unread x2) (harg5.unread x4) (harg6.unread x5) k).2.2.1 = [⟨Rect.unit (k0_off38 k) ![1, 256] (k0_off38_inb i k hc0), facT i hc0 x1 x2 D x4 k x5⟩] := by
  unfold trip_k0_t1; dsimp only
  refine Eq.trans (b := [⟨Rect.unit (k0_off38 k) ![1, 256] (k0_off38_inb i k hc0), facT i hc0 (arg2.view.read (Elt F) (harg2.unread x1)) (arg3.view.read (Elt F) (harg3.unread x2)) D (arg5.view.read (Elt F) (harg5.unread x4)) k (arg6.view.read (Elt F) (harg6.unread x5))⟩]) ?_ (by rw [harg2.read_unread, harg3.read_unread, harg5.read_unread, harg6.read_unread])
  rfl

end Cert.KernelIdeal.Hand

end
-- ==== Proof.PrepVal.lean ====
module

public import proofs.«01_k».proof.Proof.Prep

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.Dora

/-! ## The pieces' entries -/

theorem scl_at (x2 : Vec Ideal S12x40 .f32) (off : Fin 2 → ℕ) (h) (g : Fin 12) (b : Fin 40) (ho : off = ![g.val, b.val]) :
    scl x2 off h = x2 (ix2 g b) := by
  subst ho
  refine View.ld_unit_apply_of x2 _ _ _ _ _ fun a => ?_
  fin_cases a <;> simp [ix2, Shape.Idx.first]

theorem tile_at (x1 : Vec Ideal S1536x5120 .fp8e4m3) (off : Fin 2 → ℕ) (h) (r : Fin 128) (l : Fin 256) (R : Fin 1536) (J : Fin 5120)
    (o0 o1 : ℕ) (ho : off = ![o0, o1]) (hR : R.val = o0 + r.val) (hJ : J.val = o1 + l.val) :
    tile x1 off h (ix2 r l) = x1 (ix2 R J) := by
  subst ho
  refine View.ld_unit_apply_of x1 _ _ _ _ _ fun a => ?_
  fin_cases a
  · exact hR
  · exact hJ

theorem upT_at (x4 : Vec Ideal S48x5120 .bf16) (off : Fin 2 → ℕ) (h) (q : Fin 48) (l : Fin 256) (J : Fin 5120)
    (o1 : ℕ) (ho : off = ![0, o1]) (hJ : J.val = o1 + l.val) :
    upT x4 off h (ix2 q l) = x4 (ix2 q J) := by
  subst ho
  refine View.ld_unit_apply_of x4 _ _ _ _ _ fun a => ?_
  fin_cases a
  · exact (Nat.zero_add _).symm
  · exact hJ

theorem low0_at (D : Vec Ideal S1536x48 .bf16) (U : Vec Ideal S48x256 .bf16) (r : Fin 128) (l : Fin 256) :
    low D U 0 slices_S1536x48_o0_0_S128x48 (ix2 r l) = ∑ q : Fin 48, D (ix2 ⟨((0 : Fin 12) : ℕ) * 128 + r.val, by show 0 * 128 + r.val < 1536; omega⟩ q) * U (ix2 q l) := by
  pointwise [low]

theorem low1_at (D : Vec Ideal S1536x48 .bf16) (U : Vec Ideal S48x256 .bf16) (r : Fin 128) (l : Fin 256) :
    low D U 128 slices_S1536x48_o128_0_S128x48 (ix2 r l) = ∑ q : Fin 48, D (ix2 ⟨((1 : Fin 12) : ℕ) * 128 + r.val, by show 1 * 128 + r.val < 1536; omega⟩ q) * U (ix2 q l) := by
  pointwise [low]

theorem low2_at (D : Vec Ideal S1536x48 .bf16) (U : Vec Ideal S48x256 .bf16) (r : Fin 128) (l : Fin 256) :
    low D U 256 slices_S1536x48_o256_0_S128x48 (ix2 r l) = ∑ q : Fin 48, D (ix2 ⟨((2 : Fin 12) : ℕ) * 128 + r.val, by show 2 * 128 + r.val < 1536; omega⟩ q) * U (ix2 q l) := by
  pointwise [low]

theorem low3_at (D : Vec Ideal S1536x48 .bf16) (U : Vec Ideal S48x256 .bf16) (r : Fin 128) (l : Fin 256) :
    low D U 384 slices_S1536x48_o384_0_S128x48 (ix2 r l) = ∑ q : Fin 48, D (ix2 ⟨((3 : Fin 12) : ℕ) * 128 + r.val, by show 3 * 128 + r.val < 1536; omega⟩ q) * U (ix2 q l) := by
  pointwise [low]

theorem low4_at (D : Vec Ideal S1536x48 .bf16) (U : Vec Ideal S48x256 .bf16) (r : Fin 128) (l : Fin 256) :
    low D U 512 slices_S1536x48_o512_0_S128x48 (ix2 r l) = ∑ q : Fin 48, D (ix2 ⟨((4 : Fin 12) : ℕ) * 128 + r.val, by show 4 * 128 + r.val < 1536; omega⟩ q) * U (ix2 q l) := by
  pointwise [low]

theorem low5_at (D : Vec Ideal S1536x48 .bf16) (U : Vec Ideal S48x256 .bf16) (r : Fin 128) (l : Fin 256) :
    low D U 640 slices_S1536x48_o640_0_S128x48 (ix2 r l) = ∑ q : Fin 48, D (ix2 ⟨((5 : Fin 12) : ℕ) * 128 + r.val, by show 5 * 128 + r.val < 1536; omega⟩ q) * U (ix2 q l) := by
  pointwise [low]

theorem low6_at (D : Vec Ideal S1536x48 .bf16) (U : Vec Ideal S48x256 .bf16) (r : Fin 128) (l : Fin 256) :
    low D U 768 slices_S1536x48_o768_0_S128x48 (ix2 r l) = ∑ q : Fin 48, D (ix2 ⟨((6 : Fin 12) : ℕ) * 128 + r.val, by show 6 * 128 + r.val < 1536; omega⟩ q) * U (ix2 q l) := by
  pointwise [low]

theorem low7_at (D : Vec Ideal S1536x48 .bf16) (U : Vec Ideal S48x256 .bf16) (r : Fin 128) (l : Fin 256) :
    low D U 896 slices_S1536x48_o896_0_S128x48 (ix2 r l) = ∑ q : Fin 48, D (ix2 ⟨((7 : Fin 12) : ℕ) * 128 + r.val, by show 7 * 128 + r.val < 1536; omega⟩ q) * U (ix2 q l) := by
  pointwise [low]

theorem low8_at (D : Vec Ideal S1536x48 .bf16) (U : Vec Ideal S48x256 .bf16) (r : Fin 128) (l : Fin 256) :
    low D U 1024 slices_S1536x48_o1024_0_S128x48 (ix2 r l) = ∑ q : Fin 48, D (ix2 ⟨((8 : Fin 12) : ℕ) * 128 + r.val, by show 8 * 128 + r.val < 1536; omega⟩ q) * U (ix2 q l) := by
  pointwise [low]

theorem low9_at (D : Vec Ideal S1536x48 .bf16) (U : Vec Ideal S48x256 .bf16) (r : Fin 128) (l : Fin 256) :
    low D U 1152 slices_S1536x48_o1152_0_S128x48 (ix2 r l) = ∑ q : Fin 48, D (ix2 ⟨((9 : Fin 12) : ℕ) * 128 + r.val, by show 9 * 128 + r.val < 1536; omega⟩ q) * U (ix2 q l) := by
  pointwise [low]

theorem low10_at (D : Vec Ideal S1536x48 .bf16) (U : Vec Ideal S48x256 .bf16) (r : Fin 128) (l : Fin 256) :
    low D U 1280 slices_S1536x48_o1280_0_S128x48 (ix2 r l) = ∑ q : Fin 48, D (ix2 ⟨((10 : Fin 12) : ℕ) * 128 + r.val, by show 10 * 128 + r.val < 1536; omega⟩ q) * U (ix2 q l) := by
  pointwise [low]

theorem low11_at (D : Vec Ideal S1536x48 .bf16) (U : Vec Ideal S48x256 .bf16) (r : Fin 128) (l : Fin 256) :
    low D U 1408 slices_S1536x48_o1408_0_S128x48 (ix2 r l) = ∑ q : Fin 48, D (ix2 ⟨((11 : Fin 12) : ℕ) * 128 + r.val, by show 11 * 128 + r.val < 1536; omega⟩ q) * U (ix2 q l) := by
  pointwise [low]

theorem mag_at (x5 : Vec Ideal S1x5120 .f32) (off : Fin 2 → ℕ) (h) (l : Fin 256) (J : Fin 5120)
    (o1 : ℕ) (ho : off = ![0, o1]) (hJ : J.val = o1 + l.val) :
    View.ld x5 (Rect.unit off S1x256.size h) (ix2 0 l) = x5 (ix2 0 J) := by
  subst ho
  refine View.ld_unit_apply_of x5 _ _ _ _ _ fun a => ?_
  fin_cases a
  · rfl
  · exact hJ

theorem ofBits_zero : Ideal.ofBits .f32 0x00000000#32 = 0 := by simp [Ideal.ofBits, Ideal.ieee]

theorem k0_pay3_at (s0 s1 : Elt Ideal .f32) (t : Vec Ideal S128x256 .fp8e4m3) (r : Fin 128) (l : Fin 256) :
    k0_pay3 (F := Ideal) s0 s1 t (ix2 r l) = t (ix2 r l) * (if l.val < 128 then s0 else s1) := by
  pointwise [k0_pay3, k0_pay2]
  simp only [dite_eq_ite]

theorem k0_pay8_at (A : FVec Ideal S1x256 .f32) (B : FVec Ideal S128x256 .f32) (s0 s1 : Elt Ideal .f32) (t : Vec Ideal S128x256 .fp8e4m3) (l : Fin 256) :
    k0_pay8 (F := Ideal) A B s0 s1 t (ix2 0 l) = A (ix2 0 l) + ∑ r : Fin 128, (t (ix2 r l) * (if l.val < 128 then s0 else s1) + half * B (ix2 r l)) * (t (ix2 r l) * (if l.val < 128 then s0 else s1) + half * B (ix2 r l)) := by
  pointwise [k0_pay8, k0_pay6]
  rfl

theorem k0_pay45_eq (A : FVec Ideal S1x256 .f32) (B : FVec Ideal S128x256 .f32) (s0 s1 : Elt Ideal .f32) (t : Vec Ideal S128x256 .fp8e4m3) (l : Fin 256) :
    k0_pay45 (F := Ideal) A B s0 s1 t (ix2 0 l) = Ideal.sqrt (k0_pay8 A B s0 s1 t (ix2 0 l)) := rfl

theorem k0_pay46_at (A : FVec Ideal S1x256 .f32) (B : FVec Ideal S128x256 .f32) (s0 s1 : Elt Ideal .f32) (t : Vec Ideal S128x256 .fp8e4m3) (m : Vec Ideal S1x256 .f32) (l : Fin 256) :
    k0_pay46 (F := Ideal) A B s0 s1 t m (ix2 0 l) = Ideal.div (m (ix2 0 l)) (k0_pay45 A B s0 s1 t (ix2 0 l)) := by
  pointwise [k0_pay46]

theorem k0_pay47_at (U : Vec Ideal S48x256 .bf16) (r : Fin 48) (l : Fin 256) : k0_pay47 U (ix2 r l) = U (ix2 r l) * halfb := by
  pointwise [k0_pay47]
  rfl

theorem k0_pay49_at (r : Fin 208) (l : Fin 256) : k0_pay49 (F := Ideal) k0_pay48 (ix2 r l) = 0 := by
  pointwise [k0_pay49, k0_pay48]

theorem scale_at (x2 : Vec Ideal S12x40 .f32) (off0 off1 : Fin 2 → ℕ) (h0 h1) (g : Fin 12) (n : ℕ) (hn : n < 20)
    (e0 : off0 = ![g.val, 2 * n + (0 : Fin 2).val]) (e1 : off1 = ![g.val, 2 * n + (1 : Fin 2).val]) (l : Fin 256) (J : Fin 5120) (hJ : J.val = 256 * n + l.val) :
    (if l.val < 128 then scl x2 off0 h0 else scl x2 off1 h1) = x2 (ix2 g ⟨J.val / 128, by omega⟩) := by
  rw [scl_at x2 off0 h0 g ⟨2 * n, by omega⟩ e0, scl_at x2 off1 h1 g ⟨2 * n + 1, by omega⟩ e1]
  split
  · exact congrArg (fun b => x2 (ix2 g b)) (Fin.ext (show 2 * n = J.val / 128 by omega))
  · exact congrArg (fun b => x2 (ix2 g b)) (Fin.ext (show 2 * n + 1 = J.val / 128 by omega))

/-- A piece of the right factor: base weights of group `g`. -/
theorem base_at (x1 : Vec Ideal S1536x5120 .fp8e4m3) (x2 : Vec Ideal S12x40 .f32) (off off0 off1 : Fin 2 → ℕ) (h h0 h1) (g : Fin 12) (n : ℕ) (hn : n < 20)
    (e0 : off0 = ![g.val, 2 * n + (0 : Fin 2).val]) (e1 : off1 = ![g.val, 2 * n + (1 : Fin 2).val]) (e : off = ![g.val * 128, 256 * n])
    (r : Fin 128) (l : Fin 256) (R : Fin 1536) (J : Fin 5120) (hR : R.val = g.val * 128 + r.val) (hJ : J.val = 256 * n + l.val) :
    tile x1 off h (ix2 r l) * (if l.val < 128 then scl x2 off0 h0 else scl x2 off1 h1)
      = w0 (fun r j => x1 (ix2 r j)) (fun g b => x2 (ix2 g b)) R J := by
  rw [tile_at x1 off h r l R J _ _ e hR hJ, scale_at x2 off0 off1 h0 h1 g n hn e0 e1 l J hJ]
  unfold w0
  rw [show grp R = g from Fin.ext (show R.val / 128 = g.val by omega)]

/-- The norms, the column factors and the right factor that the preparation leaves. -/
def NI (x1 : Vec Ideal S1536x5120 .fp8e4m3) (x2 : Vec Ideal S12x40 .f32) (x3 : Vec Ideal S1536x48 .bf16) (x4 : Vec Ideal S48x5120 .bf16) : Vec Ideal S1x5120 .f32 :=
  fun y => norm (fun r j => x1 (ix2 r j)) (fun g b => x2 (ix2 g b)) (fun r q => x3 (ix2 r q)) (fun q j => x4 (ix2 q j)) (y 1)

/-- The column factors. -/
def CI (x1 : Vec Ideal S1536x5120 .fp8e4m3) (x2 : Vec Ideal S12x40 .f32) (x3 : Vec Ideal S1536x48 .bf16) (x4 : Vec Ideal S48x5120 .bf16) (x5 : Vec Ideal S1x5120 .f32) : Vec Ideal S1x5120 .f32 :=
  fun y => Ideal.div (x5 (ix2 0 (y 1))) (norm (fun r j => x1 (ix2 r j)) (fun g b => x2 (ix2 g b)) (fun r q => x3 (ix2 r q)) (fun q j => x4 (ix2 q j)) (y 1))

/-- The right factor. -/
def WI (x1 : Vec Ideal S1536x5120 .fp8e4m3) (x2 : Vec Ideal S12x40 .f32) (x4 : Vec Ideal S48x5120 .bf16) : Vec Ideal S1792x5120 .bf16 :=
  fun y => waug (fun r j => x1 (ix2 r j)) (fun g b => x2 (ix2 g b)) (fun q j => x4 (ix2 q j)) (y 0) (y 1)

/-- The squares of the merged weights of a column, summed over group `g`. -/
def gsum (x1 : Vec Ideal S1536x5120 .fp8e4m3) (x2 : Vec Ideal S12x40 .f32) (x3 : Vec Ideal S1536x48 .bf16) (x4 : Vec Ideal S48x5120 .bf16) (J : Fin 5120) (g : Fin 12) : EReal :=
  ∑ r : Fin 128, merged (fun r j => x1 (ix2 r j)) (fun g b => x2 (ix2 g b)) (fun r q => x3 (ix2 r q)) (fun q j => x4 (ix2 q j)) J ⟨g.val * 128 + r.val, by omega⟩
    * merged (fun r j => x1 (ix2 r j)) (fun g b => x2 (ix2 g b)) (fun r q => x3 (ix2 r q)) (fun q j => x4 (ix2 q j)) J ⟨g.val * 128 + r.val, by omega⟩

/-- One group's step of the sum of squares. -/
theorem step_at (A : FVec Ideal S1x256 .f32) (B : FVec Ideal S128x256 .f32) (x1 : Vec Ideal S1536x5120 .fp8e4m3) (x2 : Vec Ideal S12x40 .f32) (x3 : Vec Ideal S1536x48 .bf16) (x4 : Vec Ideal S48x5120 .bf16)
    (offu off off0 off1 : Fin 2 → ℕ) (hu h h0 h1) (g : Fin 12) (n : ℕ) (hn : n < 20)
    (e0 : off0 = ![g.val, 2 * n + (0 : Fin 2).val]) (e1 : off1 = ![g.val, 2 * n + (1 : Fin 2).val]) (e : off = ![g.val * 128, 256 * n]) (eu : offu = ![0, 256 * n])
    (l : Fin 256) (J : Fin 5120) (hJ : J.val = 256 * n + l.val)
    (hB : ∀ r : Fin 128, B (ix2 r l) = ∑ q : Fin 48, x3 (ix2 ⟨g.val * 128 + r.val, by omega⟩ q) * upT x4 offu hu (ix2 q l)) :
    k0_pay8 (F := Ideal) A B (scl x2 off0 h0) (scl x2 off1 h1) (tile x1 off h) (ix2 0 l) = A (ix2 0 l) + gsum x1 x2 x3 x4 J g := by
  rw [k0_pay8_at]
  unfold gsum
  congr 1
  refine Finset.sum_congr rfl fun r _ => ?_
  have hr : g.val * 128 + r.val < 1536 := by omega
  have eM : tile x1 off h (ix2 r l) * (if l.val < 128 then scl x2 off0 h0 else scl x2 off1 h1) + half * B (ix2 r l)
      = merged (fun r j => x1 (ix2 r j)) (fun g b => x2 (ix2 g b)) (fun r q => x3 (ix2 r q)) (fun q j => x4 (ix2 q j)) J ⟨g.val * 128 + r.val, hr⟩ := by
    rw [base_at x1 x2 off off0 off1 h h0 h1 g n hn e0 e1 e r l ⟨g.val * 128 + r.val, hr⟩ J rfl hJ, hB r]
    unfold merged
    congr 2
    exact Finset.sum_congr rfl fun q _ => by rw [upT_at x4 offu hu q l J _ eu hJ]
  rw [eM]

theorem acc0_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc0 i hc0 x1 x2 x3 x4 k (ix2 0 l) = (0 + gsum x1 x2 x3 x4 J 0) := by
  unfold acc0
  refine (step_at _ _ x1 x2 x3 x4 (k0_off1 k) (k0_off3 k) (k0_off2 k 0#32) (k0_off2 k 1#32) _ _ _ _ 0 k.val hk (k0_off2_eq k 0) (k0_off2_eq k 1) (k0_off3_eq k) (k0_off1_eq k) l J hJ (low0_at x3 _ · l)).trans ?_
  congr 1
  exact ofBits_zero

theorem acc1_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc1 i hc0 x1 x2 x3 x4 k (ix2 0 l) = ((0 + gsum x1 x2 x3 x4 J 0) + gsum x1 x2 x3 x4 J 1) := by
  unfold acc1
  refine (step_at _ _ x1 x2 x3 x4 (k0_off1 k) (k0_off6 k) (k0_off5 k 0#32) (k0_off5 k 1#32) _ _ _ _ 1 k.val hk (k0_off5_eq k 0) (k0_off5_eq k 1) (k0_off6_eq k) (k0_off1_eq k) l J hJ (low1_at x3 _ · l)).trans ?_
  rw [acc0_at i hc0 x1 x2 x3 x4 k hk l J hJ]

theorem acc2_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc2 i hc0 x1 x2 x3 x4 k (ix2 0 l) = (((0 + gsum x1 x2 x3 x4 J 0) + gsum x1 x2 x3 x4 J 1) + gsum x1 x2 x3 x4 J 2) := by
  unfold acc2
  refine (step_at _ _ x1 x2 x3 x4 (k0_off1 k) (k0_off9 k) (k0_off8 k 0#32) (k0_off8 k 1#32) _ _ _ _ 2 k.val hk (k0_off8_eq k 0) (k0_off8_eq k 1) (k0_off9_eq k) (k0_off1_eq k) l J hJ (low2_at x3 _ · l)).trans ?_
  rw [acc1_at i hc0 x1 x2 x3 x4 k hk l J hJ]

theorem acc3_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc3 i hc0 x1 x2 x3 x4 k (ix2 0 l) = ((((0 + gsum x1 x2 x3 x4 J 0) + gsum x1 x2 x3 x4 J 1) + gsum x1 x2 x3 x4 J 2) + gsum x1 x2 x3 x4 J 3) := by
  unfold acc3
  refine (step_at _ _ x1 x2 x3 x4 (k0_off1 k) (k0_off12 k) (k0_off11 k 0#32) (k0_off11 k 1#32) _ _ _ _ 3 k.val hk (k0_off11_eq k 0) (k0_off11_eq k 1) (k0_off12_eq k) (k0_off1_eq k) l J hJ (low3_at x3 _ · l)).trans ?_
  rw [acc2_at i hc0 x1 x2 x3 x4 k hk l J hJ]

theorem acc4_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc4 i hc0 x1 x2 x3 x4 k (ix2 0 l) = (((((0 + gsum x1 x2 x3 x4 J 0) + gsum x1 x2 x3 x4 J 1) + gsum x1 x2 x3 x4 J 2) + gsum x1 x2 x3 x4 J 3) + gsum x1 x2 x3 x4 J 4) := by
  unfold acc4
  refine (step_at _ _ x1 x2 x3 x4 (k0_off1 k) (k0_off15 k) (k0_off14 k 0#32) (k0_off14 k 1#32) _ _ _ _ 4 k.val hk (k0_off14_eq k 0) (k0_off14_eq k 1) (k0_off15_eq k) (k0_off1_eq k) l J hJ (low4_at x3 _ · l)).trans ?_
  rw [acc3_at i hc0 x1 x2 x3 x4 k hk l J hJ]

theorem acc5_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc5 i hc0 x1 x2 x3 x4 k (ix2 0 l) = ((((((0 + gsum x1 x2 x3 x4 J 0) + gsum x1 x2 x3 x4 J 1) + gsum x1 x2 x3 x4 J 2) + gsum x1 x2 x3 x4 J 3) + gsum x1 x2 x3 x4 J 4) + gsum x1 x2 x3 x4 J 5) := by
  unfold acc5
  refine (step_at _ _ x1 x2 x3 x4 (k0_off1 k) (k0_off18 k) (k0_off17 k 0#32) (k0_off17 k 1#32) _ _ _ _ 5 k.val hk (k0_off17_eq k 0) (k0_off17_eq k 1) (k0_off18_eq k) (k0_off1_eq k) l J hJ (low5_at x3 _ · l)).trans ?_
  rw [acc4_at i hc0 x1 x2 x3 x4 k hk l J hJ]

theorem acc6_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc6 i hc0 x1 x2 x3 x4 k (ix2 0 l) = (((((((0 + gsum x1 x2 x3 x4 J 0) + gsum x1 x2 x3 x4 J 1) + gsum x1 x2 x3 x4 J 2) + gsum x1 x2 x3 x4 J 3) + gsum x1 x2 x3 x4 J 4) + gsum x1 x2 x3 x4 J 5) + gsum x1 x2 x3 x4 J 6) := by
  unfold acc6
  refine (step_at _ _ x1 x2 x3 x4 (k0_off1 k) (k0_off21 k) (k0_off20 k 0#32) (k0_off20 k 1#32) _ _ _ _ 6 k.val hk (k0_off20_eq k 0) (k0_off20_eq k 1) (k0_off21_eq k) (k0_off1_eq k) l J hJ (low6_at x3 _ · l)).trans ?_
  rw [acc5_at i hc0 x1 x2 x3 x4 k hk l J hJ]

theorem acc7_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc7 i hc0 x1 x2 x3 x4 k (ix2 0 l) = ((((((((0 + gsum x1 x2 x3 x4 J 0) + gsum x1 x2 x3 x4 J 1) + gsum x1 x2 x3 x4 J 2) + gsum x1 x2 x3 x4 J 3) + gsum x1 x2 x3 x4 J 4) + gsum x1 x2 x3 x4 J 5) + gsum x1 x2 x3 x4 J 6) + gsum x1 x2 x3 x4 J 7) := by
  unfold acc7
  refine (step_at _ _ x1 x2 x3 x4 (k0_off1 k) (k0_off24 k) (k0_off23 k 0#32) (k0_off23 k 1#32) _ _ _ _ 7 k.val hk (k0_off23_eq k 0) (k0_off23_eq k 1) (k0_off24_eq k) (k0_off1_eq k) l J hJ (low7_at x3 _ · l)).trans ?_
  rw [acc6_at i hc0 x1 x2 x3 x4 k hk l J hJ]

theorem acc8_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc8 i hc0 x1 x2 x3 x4 k (ix2 0 l) = (((((((((0 + gsum x1 x2 x3 x4 J 0) + gsum x1 x2 x3 x4 J 1) + gsum x1 x2 x3 x4 J 2) + gsum x1 x2 x3 x4 J 3) + gsum x1 x2 x3 x4 J 4) + gsum x1 x2 x3 x4 J 5) + gsum x1 x2 x3 x4 J 6) + gsum x1 x2 x3 x4 J 7) + gsum x1 x2 x3 x4 J 8) := by
  unfold acc8
  refine (step_at _ _ x1 x2 x3 x4 (k0_off1 k) (k0_off27 k) (k0_off26 k 0#32) (k0_off26 k 1#32) _ _ _ _ 8 k.val hk (k0_off26_eq k 0) (k0_off26_eq k 1) (k0_off27_eq k) (k0_off1_eq k) l J hJ (low8_at x3 _ · l)).trans ?_
  rw [acc7_at i hc0 x1 x2 x3 x4 k hk l J hJ]

theorem acc9_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc9 i hc0 x1 x2 x3 x4 k (ix2 0 l) = ((((((((((0 + gsum x1 x2 x3 x4 J 0) + gsum x1 x2 x3 x4 J 1) + gsum x1 x2 x3 x4 J 2) + gsum x1 x2 x3 x4 J 3) + gsum x1 x2 x3 x4 J 4) + gsum x1 x2 x3 x4 J 5) + gsum x1 x2 x3 x4 J 6) + gsum x1 x2 x3 x4 J 7) + gsum x1 x2 x3 x4 J 8) + gsum x1 x2 x3 x4 J 9) := by
  unfold acc9
  refine (step_at _ _ x1 x2 x3 x4 (k0_off1 k) (k0_off30 k) (k0_off29 k 0#32) (k0_off29 k 1#32) _ _ _ _ 9 k.val hk (k0_off29_eq k 0) (k0_off29_eq k 1) (k0_off30_eq k) (k0_off1_eq k) l J hJ (low9_at x3 _ · l)).trans ?_
  rw [acc8_at i hc0 x1 x2 x3 x4 k hk l J hJ]

theorem acc10_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    acc10 i hc0 x1 x2 x3 x4 k (ix2 0 l) = (((((((((((0 + gsum x1 x2 x3 x4 J 0) + gsum x1 x2 x3 x4 J 1) + gsum x1 x2 x3 x4 J 2) + gsum x1 x2 x3 x4 J 3) + gsum x1 x2 x3 x4 J 4) + gsum x1 x2 x3 x4 J 5) + gsum x1 x2 x3 x4 J 6) + gsum x1 x2 x3 x4 J 7) + gsum x1 x2 x3 x4 J 8) + gsum x1 x2 x3 x4 J 9) + gsum x1 x2 x3 x4 J 10) := by
  unfold acc10
  refine (step_at _ _ x1 x2 x3 x4 (k0_off1 k) (k0_off33 k) (k0_off32 k 0#32) (k0_off32 k 1#32) _ _ _ _ 10 k.val hk (k0_off32_eq k 0) (k0_off32_eq k 1) (k0_off33_eq k) (k0_off1_eq k) l J hJ (low10_at x3 _ · l)).trans ?_
  rw [acc9_at i hc0 x1 x2 x3 x4 k hk l J hJ]

theorem nrmT_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (hk : k.val < 20) (l : Fin 256) (J : Fin 5120) (hJ : J.val = 256 * k.val + l.val) :
    nrmT i hc0 x1 x2 x3 x4 k (ix2 0 l) = NI x1 x2 x3 x4 (ix2 0 J) := by
  unfold nrmT
  rw [k0_pay45_eq]
  refine (congrArg Ideal.sqrt (step_at _ _ x1 x2 x3 x4 (k0_off1 k) (k0_off36 k) (k0_off35 k 0#32) (k0_off35 k 1#32) _ _ _ _ 11 k.val hk (k0_off35_eq k 0) (k0_off35_eq k 1) (k0_off36_eq k) (k0_off1_eq k) l J hJ (low11_at x3 _ · l))).trans ?_
  rw [acc10_at i hc0 x1 x2 x3 x4 k hk l J hJ]
  unfold NI Dora.norm
  rw [sum_groups]
  refine congrArg Ideal.sqrt ?_
  rw [zero_add]
  show _ = ∑ g, gsum x1 x2 x3 x4 J g
  simp only [Fin.sum_univ_castSucc, Fin.sum_univ_zero, zero_add]
  rfl

theorem facT_at (i : grid0.Coords) (hc0 : cond0_0 i) (x1 : Vec Ideal S1536x5120 .fp8e4m3) (x2 : Vec Ideal S12x40 .f32) (x3 : Vec Ideal S1536x48 .bf16) (x4 : Vec Ideal S48x5120 .bf16) (k : Fin k0_t1_loop.trips) (x5 : Vec Ideal S1x5120 .f32) (hk : k.val < 20) (l : Fin 256) (J : Fin 5120) (hJ : J.val = 256 * k.val + l.val) :
    facT i hc0 x1 x2 x3 x4 k x5 (ix2 0 l) = CI x1 x2 x3 x4 x5 (ix2 0 J) := by
  unfold facT
  rw [k0_pay46_at]
  refine congrArg₂ Ideal.div ?_ (nrmT_at i hc0 x1 x2 x3 x4 k hk l J hJ)
  exact mag_at x5 _ _ l J _ (k0_off38_eq k) hJ

/-! ## A trip's pieces -/

theorem base_tile (x1 : Vec Ideal S1536x5120 .fp8e4m3) (x2 : Vec Ideal S12x40 .f32) (x4 : Vec Ideal S48x5120 .bf16) (off off0 off1 : Fin 2 → ℕ) (h h0 h1) (g : Fin 12) (n : ℕ) (hn : n < 20)
    (e0 : off0 = ![g.val, 2 * n + (0 : Fin 2).val]) (e1 : off1 = ![g.val, 2 * n + (1 : Fin 2).val]) (e : off = ![g.val * 128, 256 * n])
    (z : S128x256.Idx) (K : Fin 1792) (J : Fin 5120) (hK : K.val = g.val * 128 + (z 0).val) (hJ : J.val = 256 * n + (z 1).val) :
    k0_pay3 (F := Ideal) (scl x2 off0 h0) (scl x2 off1 h1) (tile x1 off h) z
      = waug (fun r j => x1 (ix2 r j)) (fun g b => x2 (ix2 g b)) (fun q j => x4 (ix2 q j)) K J := by
  idx_vars z
  have hK' : K.val = g.val * 128 + z0.val := hK
  have hz0 : z0.val < 128 := z0.isLt
  have hlt : K.val < 1536 := by omega
  rw [k0_pay3_at, base_at x1 x2 off off0 off1 h h0 h1 g n hn e0 e1 e z0 z1 ⟨K.val, hlt⟩ J hK' hJ]
  unfold waug
  rw [dif_pos hlt]

theorem up_tile (x1 : Vec Ideal S1536x5120 .fp8e4m3) (x2 : Vec Ideal S12x40 .f32) (x4 : Vec Ideal S48x5120 .bf16) (off : Fin 2 → ℕ) (h) (n : ℕ)
    (e : off = ![0, 256 * n]) (z : S48x256.Idx) (K : Fin 1792) (J : Fin 5120) (hK : K.val = 1536 + (z 0).val) (hJ : J.val = 256 * n + (z 1).val) :
    k0_pay47 (F := Ideal) (upT x4 off h) z = waug (fun r j => x1 (ix2 r j)) (fun g b => x2 (ix2 g b)) (fun q j => x4 (ix2 q j)) K J := by
  idx_vars z
  have hK' : K.val = 1536 + z0.val := hK
  have hz0 : z0.val < 48 := z0.isLt
  have hlt : K.val - 1536 < 48 := by omega
  rw [k0_pay47_at, upT_at x4 off h z0 z1 J _ e hJ]
  unfold waug
  rw [dif_neg (show ¬ K.val < 1536 by omega), dif_pos hlt]
  exact congrArg (fun q => x4 (ix2 q J) * halfb) (Fin.ext (show z0.val = K.val - 1536 by omega))

theorem zero_tile (x1 : Vec Ideal S1536x5120 .fp8e4m3) (x2 : Vec Ideal S12x40 .f32) (x4 : Vec Ideal S48x5120 .bf16)
    (z : S208x256.Idx) (K : Fin 1792) (J : Fin 5120) (hK : K.val = 1584 + (z 0).val) :
    k0_pay49 (F := Ideal) k0_pay48 z = waug (fun r j => x1 (ix2 r j)) (fun g b => x2 (ix2 g b)) (fun q j => x4 (ix2 q j)) K J := by
  idx_vars z
  have hK' : K.val = 1584 + z0.val := hK
  rw [k0_pay49_at]
  unfold waug
  rw [dif_neg (show ¬ K.val < 1536 by omega), dif_neg (show ¬ K.val - 1536 < 48 by omega)]

/-- The columns of trip `n`. -/
abbrev inTrip (n : ℕ) (j : ℕ) : Prop := 256 * n ≤ j ∧ j < 256 * n + 256

/-- Every piece of a trip has the right factor's entries. -/
theorem wL_allAt (i : grid0.Coords) (hc0 : cond0_0 i) (x1 : Vec Ideal S1536x5120 .fp8e4m3) (x2 : Vec Ideal S12x40 .f32) (x4 : Vec Ideal S48x5120 .bf16) (k : Fin k0_t1_loop.trips) (hk : k.val < 20) (y : S1792x5120.Idx) :
    View.AllAt (wL i hc0 x1 x2 x4 k) y (WI x1 x2 x4 y) := by
  unfold wL WI
  refine View.allAt_cons_unit _ _ _ _ _ (fun z hz => ?_) (View.allAt_cons_unit _ _ _ _ _ (fun z hz => ?_) ?_)
  · exact zero_tile x1 x2 x4 z (y 0) (y 1) ((hz 0).trans (congrArg (· + _) (congrFun (k0_off40_eq k) 0)))
  · exact up_tile x1 x2 x4 _ _ k.val (k0_off1_eq k) z (y 0) (y 1) ((hz 0).trans (congrArg (· + _) (congrFun (k0_off39_eq k) 0))) ((hz 1).trans (congrArg (· + _) (congrFun (k0_off39_eq k) 1)))
  refine View.allAt_cons_unit _ _ _ _ _ (fun z hz => ?_) ?_
  · exact base_tile x1 x2 x4 (k0_off36 k) (k0_off35 k 0#32) (k0_off35 k 1#32) _ _ _ 11 k.val hk (k0_off35_eq k 0) (k0_off35_eq k 1) (k0_off36_eq k) z (y 0) (y 1) ((hz 0).trans (congrArg (· + _) (congrFun (k0_off37_eq k) 0))) ((hz 1).trans (congrArg (· + _) (congrFun (k0_off37_eq k) 1)))
  refine View.allAt_cons_unit _ _ _ _ _ (fun z hz => ?_) ?_
  · exact base_tile x1 x2 x4 (k0_off33 k) (k0_off32 k 0#32) (k0_off32 k 1#32) _ _ _ 10 k.val hk (k0_off32_eq k 0) (k0_off32_eq k 1) (k0_off33_eq k) z (y 0) (y 1) ((hz 0).trans (congrArg (· + _) (congrFun (k0_off34_eq k) 0))) ((hz 1).trans (congrArg (· + _) (congrFun (k0_off34_eq k) 1)))
  refine View.allAt_cons_unit _ _ _ _ _ (fun z hz => ?_) ?_
  · exact base_tile x1 x2 x4 (k0_off30 k) (k0_off29 k 0#32) (k0_off29 k 1#32) _ _ _ 9 k.val hk (k0_off29_eq k 0) (k0_off29_eq k 1) (k0_off30_eq k) z (y 0) (y 1) ((hz 0).trans (congrArg (· + _) (congrFun (k0_off31_eq k) 0))) ((hz 1).trans (congrArg (· + _) (congrFun (k0_off31_eq k) 1)))
  refine View.allAt_cons_unit _ _ _ _ _ (fun z hz => ?_) ?_
  · exact base_tile x1 x2 x4 (k0_off27 k) (k0_off26 k 0#32) (k0_off26 k 1#32) _ _ _ 8 k.val hk (k0_off26_eq k 0) (k0_off26_eq k 1) (k0_off27_eq k) z (y 0) (y 1) ((hz 0).trans (congrArg (· + _) (congrFun (k0_off28_eq k) 0))) ((hz 1).trans (congrArg (· + _) (congrFun (k0_off28_eq k) 1)))
  refine View.allAt_cons_unit _ _ _ _ _ (fun z hz => ?_) ?_
  · exact base_tile x1 x2 x4 (k0_off24 k) (k0_off23 k 0#32) (k0_off23 k 1#32) _ _ _ 7 k.val hk (k0_off23_eq k 0) (k0_off23_eq k 1) (k0_off24_eq k) z (y 0) (y 1) ((hz 0).trans (congrArg (· + _) (congrFun (k0_off25_eq k) 0))) ((hz 1).trans (congrArg (· + _) (congrFun (k0_off25_eq k) 1)))
  refine View.allAt_cons_unit _ _ _ _ _ (fun z hz => ?_) ?_
  · exact base_tile x1 x2 x4 (k0_off21 k) (k0_off20 k 0#32) (k0_off20 k 1#32) _ _ _ 6 k.val hk (k0_off20_eq k 0) (k0_off20_eq k 1) (k0_off21_eq k) z (y 0) (y 1) ((hz 0).trans (congrArg (· + _) (congrFun (k0_off22_eq k) 0))) ((hz 1).trans (congrArg (· + _) (congrFun (k0_off22_eq k) 1)))
  refine View.allAt_cons_unit _ _ _ _ _ (fun z hz => ?_) ?_
  · exact base_tile x1 x2 x4 (k0_off18 k) (k0_off17 k 0#32) (k0_off17 k 1#32) _ _ _ 5 k.val hk (k0_off17_eq k 0) (k0_off17_eq k 1) (k0_off18_eq k) z (y 0) (y 1) ((hz 0).trans (congrArg (· + _) (congrFun (k0_off19_eq k) 0))) ((hz 1).trans (congrArg (· + _) (congrFun (k0_off19_eq k) 1)))
  refine View.allAt_cons_unit _ _ _ _ _ (fun z hz => ?_) ?_
  · exact base_tile x1 x2 x4 (k0_off15 k) (k0_off14 k 0#32) (k0_off14 k 1#32) _ _ _ 4 k.val hk (k0_off14_eq k 0) (k0_off14_eq k 1) (k0_off15_eq k) z (y 0) (y 1) ((hz 0).trans (congrArg (· + _) (congrFun (k0_off16_eq k) 0))) ((hz 1).trans (congrArg (· + _) (congrFun (k0_off16_eq k) 1)))
  refine View.allAt_cons_unit _ _ _ _ _ (fun z hz => ?_) ?_
  · exact base_tile x1 x2 x4 (k0_off12 k) (k0_off11 k 0#32) (k0_off11 k 1#32) _ _ _ 3 k.val hk (k0_off11_eq k 0) (k0_off11_eq k 1) (k0_off12_eq k) z (y 0) (y 1) ((hz 0).trans (congrArg (· + _) (congrFun (k0_off13_eq k) 0))) ((hz 1).trans (congrArg (· + _) (congrFun (k0_off13_eq k) 1)))
  refine View.allAt_cons_unit _ _ _ _ _ (fun z hz => ?_) ?_
  · exact base_tile x1 x2 x4 (k0_off9 k) (k0_off8 k 0#32) (k0_off8 k 1#32) _ _ _ 2 k.val hk (k0_off8_eq k 0) (k0_off8_eq k 1) (k0_off9_eq k) z (y 0) (y 1) ((hz 0).trans (congrArg (· + _) (congrFun (k0_off10_eq k) 0))) ((hz 1).trans (congrArg (· + _) (congrFun (k0_off10_eq k) 1)))
  refine View.allAt_cons_unit _ _ _ _ _ (fun z hz => ?_) ?_
  · exact base_tile x1 x2 x4 (k0_off6 k) (k0_off5 k 0#32) (k0_off5 k 1#32) _ _ _ 1 k.val hk (k0_off5_eq k 0) (k0_off5_eq k 1) (k0_off6_eq k) z (y 0) (y 1) ((hz 0).trans (congrArg (· + _) (congrFun (k0_off7_eq k) 0))) ((hz 1).trans (congrArg (· + _) (congrFun (k0_off7_eq k) 1)))
  refine View.allAt_cons_unit _ _ _ _ _ (fun z hz => ?_) ?_
  · exact base_tile x1 x2 x4 (k0_off3 k) (k0_off2 k 0#32) (k0_off2 k 1#32) _ _ _ 0 k.val hk (k0_off2_eq k 0) (k0_off2_eq k 1) (k0_off3_eq k) z (y 0) (y 1) ((hz 0).trans (congrArg (· + _) (congrFun (k0_off4_eq k) 0))) ((hz 1).trans (congrArg (· + _) (congrFun (k0_off4_eq k) 1)))
  exact View.allAt_nil _ _

theorem off2_mem {off : Fin 2 → ℕ} {a b m n : ℕ} {y : S1792x5120.Idx} (ho : off = ![a, b]) (h0 : a ≤ (y 0).val ∧ (y 0).val < a + m) (h1 : b ≤ (y 1).val ∧ (y 1).val < b + n) :
    ∀ t, off t ≤ (y t).val ∧ (y t).val < off t + (![m, n] : Fin 2 → ℕ) t := by
  subst ho; intro t; fin_cases t
  · exact h0
  · exact h1

theorem in_rect {off sz : Fin 2 → ℕ} {y : S1792x5120.Idx} (inb) (h : ∀ t, off t ≤ (y t).val ∧ (y t).val < off t + sz t) :
    y ∈ (Rect.unit (s := S1792x5120) off sz inb).set := by
  rw [Rect.mem_set_unit]; exact h

theorem of_rect {off sz : Fin 2 → ℕ} {y : S1792x5120.Idx} {inb} (h : y ∈ (Rect.unit (s := S1792x5120) off sz inb).set) :
    ∀ t, off t ≤ (y t).val ∧ (y t).val < off t + sz t := by
  rw [Rect.mem_set_unit] at h; exact h

theorem off2_of_mem {off : Fin 2 → ℕ} {a b m n : ℕ} {y : S1792x5120.Idx} (ho : off = ![a, b])
    (h : ∀ t, off t ≤ (y t).val ∧ (y t).val < off t + (![m, n] : Fin 2 → ℕ) t) : b ≤ (y 1).val ∧ (y 1).val < b + n := by
  subst ho; exact h 1

/-- A trip's pieces cover the trip's columns. -/
theorem wL_cover (i : grid0.Coords) (hc0 : cond0_0 i) (x1 : Vec Ideal S1536x5120 .fp8e4m3) (x2 : Vec Ideal S12x40 .f32) (x4 : Vec Ideal S48x5120 .bf16) (k : Fin k0_t1_loop.trips) (y : S1792x5120.Idx) (h : inTrip k.val (y 1).val) : ∃ p ∈ wL i hc0 x1 x2 x4 k, y ∈ p.1.set := by
  have hy : (y 0).val < 1792 := (y 0).isLt
  unfold wL
  by_cases h128 : (y 0).val < 128
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), ?_⟩
    exact in_rect (k0_off4_inb i k hc0) (off2_mem (k0_off4_eq k) ⟨by omega, by omega⟩ h)
  by_cases h256 : (y 0).val < 256
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), ?_⟩
    exact in_rect (k0_off7_inb i k hc0) (off2_mem (k0_off7_eq k) ⟨by omega, by omega⟩ h)
  by_cases h384 : (y 0).val < 384
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), ?_⟩
    exact in_rect (k0_off10_inb i k hc0) (off2_mem (k0_off10_eq k) ⟨by omega, by omega⟩ h)
  by_cases h512 : (y 0).val < 512
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), ?_⟩
    exact in_rect (k0_off13_inb i k hc0) (off2_mem (k0_off13_eq k) ⟨by omega, by omega⟩ h)
  by_cases h640 : (y 0).val < 640
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), ?_⟩
    exact in_rect (k0_off16_inb i k hc0) (off2_mem (k0_off16_eq k) ⟨by omega, by omega⟩ h)
  by_cases h768 : (y 0).val < 768
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), ?_⟩
    exact in_rect (k0_off19_inb i k hc0) (off2_mem (k0_off19_eq k) ⟨by omega, by omega⟩ h)
  by_cases h896 : (y 0).val < 896
  · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
    exact in_rect (k0_off22_inb i k hc0) (off2_mem (k0_off22_eq k) ⟨by omega, by omega⟩ h)
  by_cases h1024 : (y 0).val < 1024
  · refine ⟨_, List.mem_cons_of_mem _ (List.mem_cons_of_mem _ (List.mem_cons_of_mem _ (List.mem_cons_of_mem _ (List.mem_cons_of_mem _ (List.mem_cons_of_mem _ (List.mem_cons_self)))))), ?_⟩
    exact in_rect (k0_off25_inb i k hc0) (off2_mem (k0_off25_eq k) ⟨by omega, by omega⟩ h)
  by_cases h1152 : (y 0).val < 1152
  · refine ⟨_, List.mem_cons_of_mem _ (List.mem_cons_of_mem _ (List.mem_cons_of_mem _ (List.mem_cons_of_mem _ (List.mem_cons_of_mem _ (List.mem_cons_self))))), ?_⟩
    exact in_rect (k0_off28_inb i k hc0) (off2_mem (k0_off28_eq k) ⟨by omega, by omega⟩ h)
  by_cases h1280 : (y 0).val < 1280
  · refine ⟨_, List.mem_cons_of_mem _ (List.mem_cons_of_mem _ (List.mem_cons_of_mem _ (List.mem_cons_of_mem _ (List.mem_cons_self)))), ?_⟩
    exact in_rect (k0_off31_inb i k hc0) (off2_mem (k0_off31_eq k) ⟨by omega, by omega⟩ h)
  by_cases h1408 : (y 0).val < 1408
  · refine ⟨_, List.mem_cons_of_mem _ (List.mem_cons_of_mem _ (List.mem_cons_of_mem _ (List.mem_cons_self))), ?_⟩
    exact in_rect (k0_off34_inb i k hc0) (off2_mem (k0_off34_eq k) ⟨by omega, by omega⟩ h)
  by_cases h1536 : (y 0).val < 1536
  · refine ⟨_, List.mem_cons_of_mem _ (List.mem_cons_of_mem _ (List.mem_cons_self)), ?_⟩
    exact in_rect (k0_off37_inb i k hc0) (off2_mem (k0_off37_eq k) ⟨by omega, by omega⟩ h)
  by_cases h1584 : (y 0).val < 1584
  · refine ⟨_, List.mem_cons_of_mem _ (List.mem_cons_self), ?_⟩
    exact in_rect (k0_off39_inb i k hc0) (off2_mem (k0_off39_eq k) ⟨by omega, by omega⟩ h)
  refine ⟨_, List.mem_cons_self, ?_⟩
  exact in_rect (k0_off40_inb i k hc0) (off2_mem (k0_off40_eq k) ⟨by omega, by omega⟩ h)

/-- A trip's pieces stay in the trip's columns. -/
theorem wL_out (i : grid0.Coords) (hc0 : cond0_0 i) (x1 : Vec Ideal S1536x5120 .fp8e4m3) (x2 : Vec Ideal S12x40 .f32) (x4 : Vec Ideal S48x5120 .bf16) (k : Fin k0_t1_loop.trips) (y : S1792x5120.Idx) (h : ¬ inTrip k.val (y 1).val) : ∀ p ∈ wL i hc0 x1 x2 x4 k, y ∉ p.1.set := by
  unfold wL
  intro p hp hy
  simp only [List.mem_cons, List.not_mem_nil, or_false] at hp
  rcases hp with rfl | rfl | rfl | rfl | rfl | rfl | rfl | rfl | rfl | rfl | rfl | rfl | rfl | rfl
  · exact h (off2_of_mem (k0_off40_eq k) (of_rect (inb := k0_off40_inb i k hc0) hy))
  · exact h (off2_of_mem (k0_off39_eq k) (of_rect (inb := k0_off39_inb i k hc0) hy))
  · exact h (off2_of_mem (k0_off37_eq k) (of_rect (inb := k0_off37_inb i k hc0) hy))
  · exact h (off2_of_mem (k0_off34_eq k) (of_rect (inb := k0_off34_inb i k hc0) hy))
  · exact h (off2_of_mem (k0_off31_eq k) (of_rect (inb := k0_off31_inb i k hc0) hy))
  · exact h (off2_of_mem (k0_off28_eq k) (of_rect (inb := k0_off28_inb i k hc0) hy))
  · exact h (off2_of_mem (k0_off25_eq k) (of_rect (inb := k0_off25_inb i k hc0) hy))
  · exact h (off2_of_mem (k0_off22_eq k) (of_rect (inb := k0_off22_inb i k hc0) hy))
  · exact h (off2_of_mem (k0_off19_eq k) (of_rect (inb := k0_off19_inb i k hc0) hy))
  · exact h (off2_of_mem (k0_off16_eq k) (of_rect (inb := k0_off16_inb i k hc0) hy))
  · exact h (off2_of_mem (k0_off13_eq k) (of_rect (inb := k0_off13_inb i k hc0) hy))
  · exact h (off2_of_mem (k0_off10_eq k) (of_rect (inb := k0_off10_inb i k hc0) hy))
  · exact h (off2_of_mem (k0_off7_eq k) (of_rect (inb := k0_off7_inb i k hc0) hy))
  · exact h (off2_of_mem (k0_off4_eq k) (of_rect (inb := k0_off4_inb i k hc0) hy))

/-! ## The whole preparation -/

/-- Twenty trips, each writing its own columns with the entries of `X` there, leave `X`. -/
theorem trips_leave {s : Shape} {e : EltTy} {sp : Space} (v : View sig .tc sp s e) (G : v.ty.Contents (Elt Ideal)) (X : s.Idx → Elt Ideal e)
    (col : s.Idx → ℕ) (pb L : ℕ → List (View.Piece (Elt Ideal) s e))
    (h0 : pb 0 = []) (hs : ∀ n < 20, pb (n + 1) = L n ++ pb n)
    (hin : ∀ n < 20, ∀ y, inTrip n (col y) → (∃ p ∈ L n, y ∈ p.1.set) ∧ View.AllAt (L n) y (X y))
    (hout : ∀ n < 20, ∀ y, ¬ inTrip n (col y) → ∀ p ∈ L n, y ∉ p.1.set)
    (n : ℕ) (hn : n ≤ 20) (y : s.Idx) (hy : col y < 256 * n) : v.read (Elt Ideal) (v.writes (Elt Ideal) G (pb n)) y = X y := by
  induction n with
  | zero => omega
  | succ n ih =>
    rw [hs n (by omega), View.writes_append]
    by_cases ht : inTrip n (col y)
    · obtain ⟨hc, ha⟩ := hin n (by omega) y ht
      rw [View.read_writes_apply_eq_canon v _ y (L n) hc]
      exact View.canon_eq_of_allAt _ _ _ hc ha
    · rw [View.read_writes_apply_of_forall_not_mem v _ y (L n) (hout n (by omega) y ht)]
      exact ih (by omega) (by unfold inTrip at ht; omega)

theorem trips_eq : k0_t1_loop.trips = 20 := by decide +kernel

set_option maxHeartbeats 1000000 in
theorem prep_w (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x1 : Vec Ideal S1536x5120 .fp8e4m3) (x2 : Vec Ideal S12x40 .f32) (x3 : Vec Ideal S1536x48 .bf16) (x4 : Vec Ideal S48x5120 .bf16) (x5 : Vec Ideal S1x5120 .f32) (G : BufTy.Contents (Elt Ideal) arg11.view.ty) :
    arg11.view.read (Elt Ideal) (arg11.view.writes (Elt Ideal) G (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) 20).2.1) = WI x1 x2 x4 := by
  funext y
  refine trips_leave arg11.view G (WI x1 x2 x4) (fun y => (y 1).val) (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) n).2.1) (fun n => if h : n < k0_t1_loop.trips then wL i hc0 x1 x2 x4 ⟨n, h⟩ else []) rfl
    (fun n hn => ?_) (fun n hn y hy => ?_) (fun n hn y hy => ?_) 20 le_rfl y (show (y 1).val < 256 * 20 from (y 1).isLt)
  · have h : n < k0_t1_loop.trips := by rw [trips_eq]; exact hn
    have e := congrArg (fun p => p.2.1) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) ⟨n, h⟩)
    simp only [dif_pos h]
    refine e.trans ?_
    dsimp only
    rw [trip_w]
  · have h : n < k0_t1_loop.trips := by rw [trips_eq]; exact hn
    simp only [dif_pos h]
    exact ⟨wL_cover i hc0 x1 x2 x4 ⟨n, h⟩ y hy, wL_allAt i hc0 x1 x2 x4 ⟨n, h⟩ hn y⟩
  · have h : n < k0_t1_loop.trips := by rw [trips_eq]; exact hn
    simp only [dif_pos h]
    exact wL_out i hc0 x1 x2 x4 ⟨n, h⟩ y hy

theorem row_mem {off : Fin 2 → ℕ} {n : ℕ} {y : S1x5120.Idx} (ho : off = ![0, 256 * n]) (h1 : inTrip n (y 1).val) :
    ∀ t, off t ≤ (y t).val ∧ (y t).val < off t + (![1, 256] : Fin 2 → ℕ) t := by
  subst ho; intro t; fin_cases t
  · exact ⟨Nat.zero_le _, (y 0).isLt⟩
  · exact h1

theorem row_of_mem {off : Fin 2 → ℕ} {n : ℕ} {y : S1x5120.Idx} (ho : off = ![0, 256 * n])
    (h : ∀ t, off t ≤ (y t).val ∧ (y t).val < off t + (![1, 256] : Fin 2 → ℕ) t) : inTrip n (y 1).val := by
  subst ho; exact h 1

theorem row_cover {off : Fin 2 → ℕ} {n : ℕ} {y : S1x5120.Idx} (ho : off = ![0, 256 * n]) (inb) (w : S1x256.Idx → Elt Ideal .f32) (h1 : inTrip n (y 1).val) :
    ∃ p ∈ ([⟨Rect.unit off ![1, 256] inb, w⟩] : List (View.Piece (Elt Ideal) S1x5120 .f32)), y ∈ p.1.set :=
  ⟨_, List.mem_cons_self, by rw [Rect.mem_set_unit]; exact row_mem ho h1⟩

theorem row_out {off : Fin 2 → ℕ} {n : ℕ} {y : S1x5120.Idx} (ho : off = ![0, 256 * n]) (inb) (w : S1x256.Idx → Elt Ideal .f32) (h1 : ¬ inTrip n (y 1).val) :
    ∀ p ∈ ([⟨Rect.unit off ![1, 256] inb, w⟩] : List (View.Piece (Elt Ideal) S1x5120 .f32)), y ∉ p.1.set := by
  intro p hp hm
  obtain rfl := List.mem_singleton.mp hp
  rw [Rect.mem_set_unit] at hm
  exact h1 (row_of_mem ho hm)

theorem row_at {off : Fin 2 → ℕ} {n : ℕ} (ho : off = ![0, 256 * n]) (inb) (w : S1x256.Idx → Elt Ideal .f32) (X : Vec Ideal S1x5120 .f32)
    (h : ∀ (l : Fin 256) (J : Fin 5120), J.val = 256 * n + l.val → w (ix2 0 l) = X (ix2 0 J)) (y : S1x5120.Idx) :
    View.AllAt ([⟨Rect.unit off ![1, 256] inb, w⟩] : List (View.Piece (Elt Ideal) S1x5120 .f32)) y (X y) := by
  refine View.allAt_cons_unit _ _ _ _ _ (fun z hz => ?_) (View.allAt_nil _ _)
  have h1 := hz 1
  subst ho
  idx_vars z
  idx_vars y
  obtain rfl : z0 = 0 := Subsingleton.elim _ _
  obtain rfl : y0 = 0 := Subsingleton.elim _ _
  exact h z1 y1 h1

set_option maxHeartbeats 1000000 in
theorem prep_norm (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x1 : Vec Ideal S1536x5120 .fp8e4m3) (x2 : Vec Ideal S12x40 .f32) (x3 : Vec Ideal S1536x48 .bf16) (x4 : Vec Ideal S48x5120 .bf16) (x5 : Vec Ideal S1x5120 .f32) (G : BufTy.Contents (Elt Ideal) arg8.view.ty) :
    arg8.view.read (Elt Ideal) (arg8.view.writes (Elt Ideal) G (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) 20).1) = NI x1 x2 x3 x4 := by
  funext y
  refine trips_leave arg8.view G (NI x1 x2 x3 x4) (fun y => (y 1).val) (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) n).1) (fun n => if h : n < k0_t1_loop.trips then [⟨Rect.unit (k0_off38 ⟨n, h⟩) ![1, 256] (k0_off38_inb i ⟨n, h⟩ hc0), nrmT i hc0 x1 x2 x3 x4 ⟨n, h⟩⟩] else []) rfl
    (fun n hn => ?_) (fun n hn y hy => ?_) (fun n hn y hy => ?_) 20 le_rfl y (show (y 1).val < 256 * 20 from (y 1).isLt)
  · have h : n < k0_t1_loop.trips := by rw [trips_eq]; exact hn
    have e := congrArg (fun p => p.1) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) ⟨n, h⟩)
    simp only [dif_pos h]
    refine e.trans ?_
    dsimp only
    rw [trip_norm]
  · have h : n < k0_t1_loop.trips := by rw [trips_eq]; exact hn
    simp only [dif_pos h]
    exact ⟨row_cover (k0_off38_eq ⟨n, h⟩) _ _ hy, row_at (k0_off38_eq ⟨n, h⟩) _ _ _ (nrmT_at i hc0 x1 x2 x3 x4 ⟨n, h⟩ hn) y⟩
  · have h : n < k0_t1_loop.trips := by rw [trips_eq]; exact hn
    simp only [dif_pos h]
    exact row_out (k0_off38_eq ⟨n, h⟩) _ _ hy

set_option maxHeartbeats 1000000 in
theorem prep_fac (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x1 : Vec Ideal S1536x5120 .fp8e4m3) (x2 : Vec Ideal S12x40 .f32) (x3 : Vec Ideal S1536x48 .bf16) (x4 : Vec Ideal S48x5120 .bf16) (x5 : Vec Ideal S1x5120 .f32) (G : BufTy.Contents (Elt Ideal) arg13.view.ty) :
    arg13.view.read (Elt Ideal) (arg13.view.writes (Elt Ideal) G (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) 20).2.2) = CI x1 x2 x3 x4 x5 := by
  funext y
  refine trips_leave arg13.view G (CI x1 x2 x3 x4 x5) (fun y => (y 1).val) (fun n => (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) n).2.2) (fun n => if h : n < k0_t1_loop.trips then [⟨Rect.unit (k0_off38 ⟨n, h⟩) ![1, 256] (k0_off38_inb i ⟨n, h⟩ hc0), facT i hc0 x1 x2 x3 x4 ⟨n, h⟩ x5⟩] else []) rfl
    (fun n hn => ?_) (fun n hn y hy => ?_) (fun n hn y hy => ?_) 20 le_rfl y (show (y 1).val < 256 * 20 from (y 1).isLt)
  · have h : n < k0_t1_loop.trips := by rw [trips_eq]; exact hn
    have e := congrArg (fun p => p.2.2) (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 hc0 x3 (harg2.unread x1) (harg3.unread x2) (harg5.unread x4) (harg6.unread x5) ⟨n, h⟩)
    simp only [dif_pos h]
    refine e.trans ?_
    dsimp only
    rw [trip_fac]
  · have h : n < k0_t1_loop.trips := by rw [trips_eq]; exact hn
    simp only [dif_pos h]
    exact ⟨row_cover (k0_off38_eq ⟨n, h⟩) _ _ hy, row_at (k0_off38_eq ⟨n, h⟩) _ _ _ (facT_at i hc0 x1 x2 x3 x4 ⟨n, h⟩ x5 hn) y⟩
  · have h : n < k0_t1_loop.trips := by rw [trips_eq]; exact hn
    simp only [dif_pos h]
    exact row_out (k0_off38_eq ⟨n, h⟩) _ _ hy

end Cert.KernelIdeal.Hand

end
-- ==== Proof.Body.lean ====
module

public import proofs.«01_k».proof.Proof.Block
public import proofs.«01_k».proof.Proof.Quant
public import proofs.«01_k».proof.Proof.PrepVal

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! # One grid point of the kernel: what each buffer holds before and after -/

/-- The result's block, from the input's block, the factors in the scratch. -/
def YV (x0 : Vec Ideal S1x512x1536 .bf16) (x3 : Vec Ideal S1536x48 .bf16) (W : Vec Ideal S1792x5120 .bf16) (C : Vec Ideal S1x5120 .f32) : Vec Ideal S1x512x5120 .bf16 :=
  View.canon (yL (lhs x0 x3) W C)

/-- The codes' block, from the input's block. -/
def QV (x0 : Vec Ideal S1x512x1536 .bf16) : Vec Ideal S1x512x1536 .fp8e4m3 := View.canon (codesL x0)

/-- The scales' block, from the input's block. -/
def SV (x0 : Vec Ideal S1x512x1536 .bf16) : Vec Ideal S1x512x12 .f32 :=
  View.canon [⟨Rect.unit ![0, 0, 0] ![1, 512, 12] inb_S1x512x12_S1x512x12_0_0_0, shapeCast S1x512x12 (qTable x0) shapeCasts_S512x12_S1x512x12⟩]

theorem read_y (v : View sig .tc .vmem S1x512x5120 .bf16) (f : v.ty.Contents (Elt Ideal)) (A : Vec Ideal S512x1792 .bf16) (W : Vec Ideal S1792x5120 .bf16) (C : Vec Ideal S1x5120 .f32) :
    v.read (Elt Ideal) (v.writes (Elt Ideal) f (yL A W C)) = View.canon (yL A W C) :=
  View.read_writes_eq_canon v f _ (View.cover_of_tiledBy _ ![1, 512, 1024] (by sl_kernel_rfl))

theorem read_q (v : View sig .tc .vmem S1x512x1536 .fp8e4m3) (f : v.ty.Contents (Elt Ideal)) (x0 : Vec Ideal S1x512x1536 .bf16) :
    v.read (Elt Ideal) (v.writes (Elt Ideal) f (codesL x0)) = QV x0 :=
  View.read_writes_eq_canon v f _ (View.cover_of_tiledBy _ ![1, 512, 128] (by sl_kernel_rfl))

theorem read_s (v : View sig .tc .vmem S1x512x12 .f32) (f : v.ty.Contents (Elt Ideal)) (x0 : Vec Ideal S1x512x1536 .bf16) :
    v.read (Elt Ideal) (v.writes (Elt Ideal) f [⟨Rect.unit ![0, 0, 0] ![1, 512, 12] inb_S1x512x12_S1x512x12_0_0_0, shapeCast S1x512x12 (qTable x0) shapeCasts_S512x12_S1x512x12⟩]) = SV x0 :=
  View.read_writes_eq_canon v f _ (View.cover_of_tiledBy _ ![1, 512, 12] (by sl_kernel_rfl))

theorem ld_down (x3 : Vec Ideal S1536x48 .bf16) : View.ld x3 (Rect.unit ![0, 0] S1536x48.size inb_S1536x48_S1536x48_0_0) = x3 :=
  View.ld_unit_zero (by funext a; fin_cases a <;> rfl) _ x3

set_option maxHeartbeats 2000000 in
/-- At the first grid point the body prepares the weights, whatever the buffers it writes held. -/
theorem bodyA (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : cond0_0 i) (x0 : Vec Ideal S1x512x1536 .bf16) (x1 : Vec Ideal S1536x5120 .fp8e4m3) (x2 : Vec Ideal S12x40 .f32) (x3 : Vec Ideal S1536x48 .bf16) (x4 : Vec Ideal S48x5120 .bf16) (x5 : Vec Ideal S1x5120 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (YV x0 x3 (WI x1 x2 x4) (CI x1 x2 x3 x4 x5)) ∗ owns (c : Thread nD τ) arg8 fullShare (NI x1 x2 x3 x4) ∗ owns (c : Thread nD τ) arg9 fullShare (QV x0) ∗ owns (c : Thread nD τ) arg10 fullShare (SV x0) ∗ owns (c : Thread nD τ) arg11 fullShare (WI x1 x2 x4) ∗ (∃ d, owns (c : Thread nD τ) arg12 fullShare d) ∗ owns (c : Thread nD τ) arg13 fullShare (CI x1 x2 x3 x4 x5)) -∗ K ⟨⟩))
    ⊢ wp frame (wpE (defs₀ (F := Ideal)) Variants.none c none) E (cc0_dora_linear i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  iapply ((runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 f8 f11 f12 f13).2.2.2.2.2.2.2 E K f7 f9 f10)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; rw [runA_y (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5, ld_down, prep_w c i arg1 harg1 arg2 harg2 arg3 harg3 arg4 harg4 arg5 harg5 arg6 harg6 arg7 harg7 arg8 harg8 arg9 harg9 arg10 harg10 arg11 harg11 arg12 harg12 arg13 harg13 hc0 x1 x2 x3 x4 x5, prep_fac c i arg1 harg1 arg2 harg2 arg3 harg3 arg4 harg4 arg5 harg5 arg6 harg6 arg7 harg7 arg8 harg8 arg9 harg9 arg10 harg10 arg11 harg11 arg12 harg12 arg13 harg13 hc0 x1 x2 x3 x4 x5]; exact read_y _ _ _ _ _
  isplitl [H8]
  · iexists _; isplitr; swap; · iexact H8
    ipureintro; rw [runA_norm (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5, ld_down]; exact prep_norm c i arg1 harg1 arg2 harg2 arg3 harg3 arg4 harg4 arg5 harg5 arg6 harg6 arg7 harg7 arg8 harg8 arg9 harg9 arg10 harg10 arg11 harg11 arg12 harg12 arg13 harg13 hc0 x1 x2 x3 x4 x5 _
  isplitl [H9]
  · iexists _; isplitr; swap; · iexact H9
    ipureintro; rw [runA_codes (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5]; exact read_q _ _ _
  isplitl [H10]
  · iexists _; isplitr; swap; · iexact H10
    ipureintro; rw [runA_scales (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5]; exact read_s _ _ _
  isplitl [H11]
  · iexists _; isplitr; swap; · iexact H11
    ipureintro; rw [runA_w (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5, ld_down]; exact prep_w c i arg1 harg1 arg2 harg2 arg3 harg3 arg4 harg4 arg5 harg5 arg6 harg6 arg7 harg7 arg8 harg8 arg9 harg9 arg10 harg10 arg11 harg11 arg12 harg12 arg13 harg13 hc0 x1 x2 x3 x4 x5 _
  isplitl [H12]
  · iexists _, _; isplitr; swap; · iexact H12
    ipureintro; rfl
  iexists _; isplitr; swap; · iexact H13
  ipureintro; rw [runA_c (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5, ld_down]; exact prep_fac c i arg1 harg1 arg2 harg2 arg3 harg3 arg4 harg4 arg5 harg5 arg6 harg6 arg7 harg7 arg8 harg8 arg9 harg9 arg10 harg10 arg11 harg11 arg12 harg12 arg13 harg13 hc0 x1 x2 x3 x4 x5 _

set_option maxHeartbeats 2000000 in
/-- At every later grid point the body reads the weights and the factors `W`, `C` from the scratch and leaves the norm's buffer alone. -/
theorem bodyB (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (hc0 : ¬cond0_0 i) (x0 : Vec Ideal S1x512x1536 .bf16) (x1 : Vec Ideal S1536x5120 .fp8e4m3) (x2 : Vec Ideal S12x40 .f32) (x3 : Vec Ideal S1536x48 .bf16) (x4 : Vec Ideal S48x5120 .bf16) (x5 : Vec Ideal S1x5120 .f32) (W : Vec Ideal S1792x5120 .bf16) (C N : Vec Ideal S1x5120 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare N ∗ (∃ d, owns (c : Thread nD τ) arg9 fullShare d) ∗ (∃ d, owns (c : Thread nD τ) arg10 fullShare d) ∗ owns (c : Thread nD τ) arg11 fullShare W ∗ (∃ d, owns (c : Thread nD τ) arg12 fullShare d) ∗ owns (c : Thread nD τ) arg13 fullShare C ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (YV x0 x3 W C) ∗ owns (c : Thread nD τ) arg8 fullShare N ∗ owns (c : Thread nD τ) arg9 fullShare (QV x0) ∗ owns (c : Thread nD τ) arg10 fullShare (SV x0) ∗ owns (c : Thread nD τ) arg11 fullShare W ∗ (∃ d, owns (c : Thread nD τ) arg12 fullShare d) ∗ owns (c : Thread nD τ) arg13 fullShare C) -∗ K ⟨⟩))
    ⊢ wp frame (wpE (defs₀ (F := Ideal)) Variants.none c none) E (cc0_dora_linear i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%f11, %hf11, H11⟩, ⟨%d12, %f12, -, H12⟩, ⟨%f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg13.eq_unread hf13
  iapply ((runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 W C f12).2.2.2.2 E K f7 f8 f9 f10)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro; rw [runB_y (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5]; exact read_y _ _ _ _ _
  isplitl [H8]
  · iexists _; isplitr; swap; · iexact H8
    ipureintro; exact hf8
  isplitl [H9]
  · iexists _; isplitr; swap; · iexact H9
    ipureintro; rw [runB_codes (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5]; exact read_q _ _ _
  isplitl [H10]
  · iexists _; isplitr; swap; · iexact H10
    ipureintro; rw [runB_scales (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5]; exact read_s _ _ _
  isplitl [H11]
  · iexists _; isplitr; · ipureintro; exact harg11.read_unread _
    iexact H11
  isplitl [H12]
  · iexists _, _; isplitr; swap; · iexact H12
    ipureintro; rfl
  iexists _; isplitr; · ipureintro; exact harg13.read_unread _
  iexact H13

end Cert.KernelIdeal.Hand

end
-- ==== Proof.Launch.lean ====
module

public import proofs.«01_k».proof.Proof.Body
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! # The kernel's launch: the pipeline's data, the body obligation, the run -/

/-- The first grid point. -/
def t0 : Fin cfg0.N := ⟨0, by rw [show cfg0.N = 24 from N_0]; decide⟩

/-- The right factor every grid point multiplies by, prepared at the first. -/
def WT (c : Dev nD) : Vec Ideal S1792x5120 .bf16 := WI (iblk m c 1 t0) (iblk m c 2 t0) (iblk m c 4 t0)
/-- The column factors, prepared at the first point. -/
def CT (c : Dev nD) : Vec Ideal S1x5120 .f32 := CI (iblk m c 1 t0) (iblk m c 2 t0) (iblk m c 3 t0) (iblk m c 4 t0) (iblk m c 5 t0)
/-- The norms, prepared at the first point. -/
def NT (c : Dev nD) : Vec Ideal S1x5120 .f32 := NI (iblk m c 1 t0) (iblk m c 2 t0) (iblk m c 3 t0) (iblk m c 4 t0)

/-- The operands other than the input are one block each, the same at every point. -/
theorem iblk1 (c : Dev nD) (t : Fin cfg0.N) : iblk m c 1 t = iblk m c 1 t0 := rfl
theorem iblk2 (c : Dev nD) (t : Fin cfg0.N) : iblk m c 2 t = iblk m c 2 t0 := rfl
theorem iblk3 (c : Dev nD) (t : Fin cfg0.N) : iblk m c 3 t = iblk m c 3 t0 := rfl
theorem iblk4 (c : Dev nD) (t : Fin cfg0.N) : iblk m c 4 t = iblk m c 4 t0 := rfl
theorem iblk5 (c : Dev nD) (t : Fin cfg0.N) : iblk m c 5 t = iblk m c 5 t0 := rfl

abbrev ms0_0 (t : Fin cfg0.N) : Memref sig .tc .vmem S1x512x1536 .bf16 := win0_0.stage (cfg0.slots t 0)
theorem liveAt0_0 : ∀ t : Fin cfg0.N, cfg0.idle 0 (grid0.coords t) = false := fun _ => rfl
abbrev ms0_1 (t : Fin cfg0.N) : Memref sig .tc .vmem S1536x5120 .fp8e4m3 := win0_1.stage (cfg0.slots t 1)
theorem liveAt0_1 : ∀ t : Fin cfg0.N, cfg0.idle 1 (grid0.coords t) = false := fun _ => rfl
abbrev ms0_2 (t : Fin cfg0.N) : Memref sig .tc .smem S12x40 .f32 := win0_2.stage (cfg0.slots t 2)
theorem liveAt0_2 : ∀ t : Fin cfg0.N, cfg0.idle 2 (grid0.coords t) = false := fun _ => rfl
abbrev ms0_3 (t : Fin cfg0.N) : Memref sig .tc .vmem S1536x48 .bf16 := win0_3.stage (cfg0.slots t 3)
theorem liveAt0_3 : ∀ t : Fin cfg0.N, cfg0.idle 3 (grid0.coords t) = false := fun _ => rfl
abbrev ms0_4 (t : Fin cfg0.N) : Memref sig .tc .vmem S48x5120 .bf16 := win0_4.stage (cfg0.slots t 4)
theorem liveAt0_4 : ∀ t : Fin cfg0.N, cfg0.idle 4 (grid0.coords t) = false := fun _ => rfl
abbrev ms0_5 (t : Fin cfg0.N) : Memref sig .tc .vmem S1x5120 .f32 := win0_5.stage (cfg0.slots t 5)
theorem liveAt0_5 : ∀ t : Fin cfg0.N, cfg0.idle 5 (grid0.coords t) = false := fun _ => rfl
abbrev ms0_6 (t : Fin cfg0.N) : Memref sig .tc .vmem S1x512x5120 .bf16 := win0_6.stage (cfg0.slots t 6)
theorem liveAt0_6 : ∀ t : Fin cfg0.N, cfg0.idle 6 (grid0.coords t) = false := fun _ => rfl
abbrev ms0_7 (t : Fin cfg0.N) : Memref sig .tc .vmem S1x5120 .f32 := win0_7.stage (cfg0.slots t 7)
abbrev ms0_8 (t : Fin cfg0.N) : Memref sig .tc .vmem S1x512x1536 .fp8e4m3 := win0_8.stage (cfg0.slots t 8)
theorem liveAt0_8 : ∀ t : Fin cfg0.N, cfg0.idle 8 (grid0.coords t) = false := fun _ => rfl
abbrev ms0_9 (t : Fin cfg0.N) : Memref sig .tc .vmem S1x512x12 .f32 := win0_9.stage (cfg0.slots t 9)
theorem liveAt0_9 : ∀ t : Fin cfg0.N, cfg0.idle 9 (grid0.coords t) = false := fun _ => rfl
abbrev scM0_0 : Memref sig .tc .vmem S1792x5120 .bf16 := Memref.whole cc0_scratch0
abbrev scM0_1 : Memref sig .tc .vmem S512x1792 .bf16 := Memref.whole cc0_scratch1
abbrev scM0_2 : Memref sig .tc .vmem S1x5120 .f32 := Memref.whole cc0_scratch2

/-- The scratch and the generator's register at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- After the first point the scratch holds the right factor and the column factors. -/
def PhiP (c : Dev nD) : sProp 𝕄 :=
  iprop(iprop(owns (c : Thread nD τ) scM0_0 fullShare (WT m c) ∗ (∃ d, owns (c : Thread nD τ) scM0_1 fullShare d) ∗ owns (c : Thread nD τ) scM0_2 fullShare (CT m c)) ∗ (∃ r, prngReg c r))

/-- What the scratch holds before point `n`. -/
def Phi (c : Dev nD) (n : ℕ) : sProp 𝕄 := if n = 0 then Pipeline.ΦA spec0 c else PhiP m c

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => YV (iblk m c 0 t) (iblk m c 3 t0) (WT m c) (CT m c)
    | ⟨7, _⟩ => NT m c
    | ⟨8, _⟩ => QV (iblk m c 0 t)
    | ⟨9, _⟩ => SV (iblk m c 0 t)
  Φ t := Phi m c t.val
  q _ := fullShare
  owed _ := 0

theorem Phi_zero (c : Dev nD) (t : Fin (cfg0.N + 1)) (h : t.val = 0) : (dats m 0 c).Φ t = Pipeline.ΦA spec0 c := by
  dsimp only [dats]; unfold Phi; rw [if_pos h]
theorem Phi_pos (c : Dev nD) (t : Fin (cfg0.N + 1)) (h : t.val ≠ 0) : (dats m 0 c).Φ t = PhiP m c := by
  dsimp only [dats]; unfold Phi; rw [if_neg h]

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = YV (iblk m c 0 t) (iblk m c 3 t0) (WT m c) (CT m c) := by dsimp only [dats]
theorem after0_7 (c : Dev nD) (t : Fin cfg0.N) : (dats m 0 c).after 7 t = NT m c := by dsimp only [dats]
theorem after0_8 (c : Dev nD) (t : Fin cfg0.N) : (dats m 0 c).after 8 t = QV (iblk m c 0 t) := by dsimp only [dats]
theorem after0_9 (c : Dev nD) (t : Fin cfg0.N) : (dats m 0 c).after 9 t = SV (iblk m c 0 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The norm's window is written at the first point alone. -/
theorem live7 (t : Fin cfg0.N) (h : cond0_0 (grid0.coords t)) : cfg0.idle 7 (grid0.coords t) = false := by
  show (!(k0_cond1 (grid0.coords t) == 1#1)) = false
  rw [show k0_cond1 (grid0.coords t) = 1#1 from h]; rfl
theorem idle7 (t : Fin cfg0.N) (h : ¬cond0_0 (grid0.coords t)) : cfg0.idle 7 (grid0.coords t) = true := by
  show (!(k0_cond1 (grid0.coords t) == 1#1)) = true
  rw [beq_eq_false_iff_ne.mpr h]; rfl

/-- After the first point the norm's staging buffer holds the norms. -/
theorem before0_7 (c : Dev nD) (n : ℕ) : ∀ (hn : n + 1 < cfg0.N) (d), (dats m 0 c).before 7 ⟨n + 1, hn⟩ d = NT m c := by
  induction n with
  | zero =>
    intro hn d
    rw [Dat.before_of_pos _ 7 _ (Nat.succ_ne_zero _) (Window.fetch_out (cfg0.win 7) rfl _)]
    have hf : (cfg0.win 7).flush ⟨0, Nat.lt_of_succ_lt hn⟩ = false := by
      rw [Bool.eq_false_iff]; intro h; have := (flush0_7 _).mp h; simp at this
    show (if (cfg0.win 7).flush ⟨0, Nat.lt_of_succ_lt hn⟩ then d else (dats m 0 c).left 7 ⟨0, Nat.lt_of_succ_lt hn⟩ d) = _
    rw [hf, if_neg Bool.false_ne_true]
    unfold Dat.left
    rw [show cfg0.idle 7 (cfg0.grid.coords ⟨0, Nat.lt_of_succ_lt hn⟩) = false from live7 _ ((hcond0_0 _).mpr (by simp))]
    dsimp only; unfold Dat.kept
    rw [Pipeline.fill_of_clip_none (cfg := cfg0) 7 _ (fun _ => rfl) d ((dats m 0 c).after 7 _), Window.fill_cut, after0_7]
  | succ n ih =>
    intro hn d
    rw [Dat.before_of_pos _ 7 _ (Nat.succ_ne_zero _) (Window.fetch_out (cfg0.win 7) rfl _)]
    have hN : cfg0.N = 24 := N_0
    have hf : (cfg0.win 7).flush ⟨n + 1, Nat.lt_of_succ_lt hn⟩ = false := by
      rw [Bool.eq_false_iff]; intro h; have := (flush0_7 _).mp h; simp only at this; omega
    show (if (cfg0.win 7).flush ⟨n + 1, Nat.lt_of_succ_lt hn⟩ then d else (dats m 0 c).left 7 ⟨n + 1, Nat.lt_of_succ_lt hn⟩ d) = _
    rw [hf, if_neg Bool.false_ne_true]
    unfold Dat.left
    rw [show cfg0.idle 7 (cfg0.grid.coords ⟨n + 1, Nat.lt_of_succ_lt hn⟩) = true from idle7 _ (fun h => by have := (hcond0_0 _).mp h; simp only at this; omega)]
    exact ih _ d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The first point: the body prepares the weights. -/
theorem sound_first (c : Dev nD) (t : Fin cfg0.N) (h0 : t.val = 0) :
    bodyPre m c t ⊢ wp frame (wpE (defs₀ (F := Ideal)) Variants.none c none) Set.univ (bodyAt0 t) (fun _ => bodyPost m c t) := by
  have hc : cond0_0 (grid0.coords t) := (hcond0_0 t).mpr (by rw [h0])
  unfold bodyPre bodyPost bodyAt0
  simp only [before0_0, before0_1, before0_2, before0_3, before0_4, before0_5]
  rw [show (dats m 0 c).owesAt () t.succ = (dats m 0 c).owesAt () t.castSucc from rfl]
  rw [Phi_zero m c t.castSucc h0, PhiA0_eq,
    Phi_pos m c t.succ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 7 t = owns (c : Thread nD τ) (ms0_7 t) fullShare ((dats m 0 c).after 7 t) from by
    unfold Dat.leavesExact; rw [show cfg0.idle 7 (cfg0.grid.coords t) = false from live7 t hc], after0_7]
  rw [iblk1 m c t, iblk2 m c t, iblk3 m c t, iblk4 m c t, iblk5 m c t]
  unfold PhiP
  iintro ⟨⟨⟨H11, H12, H13⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyA c (grid0.coords t) _ _ _ _ _ _ _ _ _ _ _ _ _ _ _ _ _ _ _ _ _ _ _ _ _ _ hc (iblk m c 0 t) (iblk m c 1 t0) (iblk m c 2 t0) (iblk m c 3 t0) (iblk m c 4 t0) (iblk m c 5 t0) Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [H12]; · iexact H12
  isplitl [H13]; · iexact H13
  iintro ⟨H1, H2, H3, H4, H5, H6, H7, H8, H9, H10, H11, H12, H13⟩
  isplitl [H11 H12 H13 Hg]
  · isplitl [H11 H12 H13]
    · isplitl [H11]
      · iexact H11
      isplitl [H12]
      · iexact H12
      iexact H13
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 4000000 in
/-- A later point: the body reads what the first prepared. -/
theorem sound_later (c : Dev nD) (t : Fin cfg0.N) (h0 : t.val ≠ 0) :
    bodyPre m c t ⊢ wp frame (wpE (defs₀ (F := Ideal)) Variants.none c none) Set.univ (bodyAt0 t) (fun _ => bodyPost m c t) := by
  have hN : t.val < 24 := lt_of_lt_of_eq t.isLt (show cfg0.N = 24 from N_0)
  have hc : ¬cond0_0 (grid0.coords t) := fun h => h0 (by have := (hcond0_0 t).mp h; omega)
  have hb : ∀ d, (dats m 0 c).before 7 t d = NT m c := by
    obtain ⟨n, hn⟩ := t
    cases n with
    | zero => exact absurd rfl h0
    | succ n => exact before0_7 m c n hn
  have h7 : owns (c : Thread nD τ) (ms0_7 t) fullShare (NT m c) ⊢ (dats m 0 c).leavesExact 7 t := by
    by_cases hf : (cfg0.win 7).flush t = true
    · rw [show (dats m 0 c).leavesExact 7 t = owns (c : Thread nD τ) (ms0_7 t) fullShare ((dats m 0 c).after 7 t) from by
        unfold Dat.leavesExact; rw [show cfg0.idle 7 (cfg0.grid.coords t) = true from idle7 t hc, hf], after0_7]
    · rw [Dat.leavesExact_idle _ 7 t (idle7 t hc) (Bool.eq_false_iff.mpr hf)]
      simp only [hb]
      iintro H; iexists (fun _ => Classical.arbitrary _); iexact H
  unfold bodyPre bodyPost bodyAt0
  simp only [before0_0, before0_1, before0_2, before0_3, before0_4, before0_5, hb]
  rw [show (dats m 0 c).owesAt () t.succ = (dats m 0 c).owesAt () t.castSucc from rfl]
  rw [Phi_pos m c t.castSucc h0,
    Phi_pos m c t.succ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [iblk1 m c t, iblk2 m c t, iblk3 m c t, iblk4 m c t, iblk5 m c t]
  unfold PhiP
  iintro ⟨⟨⟨H11, H12, H13⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyB c (grid0.coords t) _ _ _ _ _ _ _ _ _ _ _ _ _ _ _ _ _ _ _ _ _ _ _ _ _ _ hc (iblk m c 0 t) (iblk m c 1 t0) (iblk m c 2 t0) (iblk m c 3 t0) (iblk m c 4 t0) (iblk m c 5 t0) (WT m c) (CT m c) (NT m c) Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  isplitl [H10]; · iexists _; iexact H10
  isplitl [H11]; · iexact H11
  isplitl [H12]; · iexact H12
  isplitl [H13]; · iexact H13
  iintro ⟨H1, H2, H3, H4, H5, H6, H7, H8, H9, H10, H11, H12, H13⟩
  isplitl [H11 H12 H13 Hg]
  · isplitl [H11 H12 H13]
    · isplitl [H11]
      · iexact H11
      isplitl [H12]
      · iexact H12
      iexact H13
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply h7; iexact H8
  isplitl [H9]; · iexact H9
  iexact H10

theorem sound_body (c : Dev nD) (t : Fin cfg0.N) :
    bodyPre m c t ⊢ wp frame (wpE (defs₀ (F := Ideal)) Variants.none c none) Set.univ (bodyAt0 t) (fun _ => bodyPost m c t) := by
  by_cases h0 : t.val = 0
  · exact sound_first m c t h0
  · exact sound_later m c t h0

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The scratch is forgotten after the last point. -/
theorem Phi_out (c : Dev nD) : PhiP m c ⊢ (Pipeline.ΦA spec0 c : sProp 𝕄) := by
  rw [PhiA0_eq]; unfold PhiP
  iintro ⟨⟨H0, H1, H2⟩, Hg⟩
  isplitl [H0 H1 H2]
  · isplitl [H0]; · iexists _; iexact H0
    isplitl [H1]; · iexact H1
    iexists _; iexact H2
  iexact Hg

set_option backward.isDefEq.respectTransparency.types false in
/-- The launch: every array of the pipeline ends at what the data names, every semaphore at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by
      rw [Phi_pos m c (Fin.last cfg0.N) (by
        show cfg0.N ≠ 0
        rw [show cfg0.N = 24 from N_0]; decide)]
      exact Phi_out m c) (Q' := _)

/-- The argument arrays end unchanged and every semaphore ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Hand

end
-- ==== Proof.Exponent.lean ====
module

public import proofs.«01_k».proof.Proof.Spec

@[expose] public section

noncomputable section

/-! # The kernel's exponent search is the floor of the binary logarithm, plus one

The kernel finds the exponent field of a level by eight comparisons and builds the scale from its bits; the
reference takes the logarithm. On levels below `2 ^ 126` the two give the same scale and the same inverse. -/

namespace Cert.Dora

open Idealize.ShloMosaic

/-- The reference's exponent of a level: zero below the least normal number, else the floor of its binary logarithm plus one. -/
def rexp (t : EReal) : EReal :=
  if t < Ideal.ofBits .f32 0x00800000#32 then Ideal.ofBits .f32 0x00000000#32
  else Ideal.liftRound Int.floor (Ideal.div (Ideal.log t) (Ideal.log (Ideal.ofBits .f32 0x40000000#32))) + Ideal.ofBits .f32 0x3F800000#32

/-- The reference's scale of a group. -/
def rscale (x : Fin 128 → EReal) : EReal := Ideal.exp2 (rexp (level x))

/-- The reference's inverse scale of a group. -/
def rinv (x : Fin 128 → EReal) : EReal := Ideal.exp2 (Ideal.ofBits .f32 0x00000000#32 - rexp (level x))

/-- The reference's code of an entry of a row. -/
def rcode (x : Fin 1536 → EReal) (j : Fin 1536) : EReal := clamp (x j * rinv (seg x (grp j)))

/-! ## Numbers with no mantissa -/

/-- The number with exponent field `n` and no mantissa (no infinity at 255 here). -/
def W (n : ℕ) : ℝ := if n = 0 then 0 else (2 : ℝ) ^ ((n : ℤ) - 127)

theorem W_zero : W 0 = 0 := if_pos rfl
theorem W_pos {n : ℕ} (h : n ≠ 0) : W n = (2 : ℝ) ^ ((n : ℤ) - 127) := if_neg h

/-- The fields of the bits `n <<< 23`. -/
theorem fields : ∀ n : Fin 256, ((BitVec.ofNat 32 n.val <<< 23).extractLsb' 31 1 = 0#1)
    ∧ ((BitVec.ofNat 32 n.val <<< 23).extractLsb' 23 8).toNat = n.val ∧ ((BitVec.ofNat 32 n.val <<< 23).extractLsb' 0 23).toNat = 0 := by
  decide +kernel

/-- The real number a word with no mantissa, no sign and an ordinary exponent field spells. -/
theorem ieee_plain (e m : ℕ) {w : ℕ} (b : BitVec w) (h1 : b.extractLsb' (e + m) 1 = 0#1) (n : ℕ) (h2 : (b.extractLsb' m e).toNat = n)
    (h3 : (b.extractLsb' 0 m).toNat = 0) (ht : n ≠ 2 ^ e - 1) (hn : n ≠ 0) :
    Ideal.ieee e m b = (((2 : ℝ) ^ ((n : ℤ) - (2 ^ (e - 1) - 1)) : ℝ) : EReal) := by
  unfold Ideal.ieee
  simp only [h1, h2, h3]
  rw [if_neg ht, if_neg hn]
  congr 1
  have : (0#1 == 1#1) = false := by decide
  rw [this]
  simp only [Bool.false_eq_true, if_false, Nat.add_zero, one_mul]
  rw [Nat.cast_pow, Nat.cast_ofNat, ← zpow_natCast, ← zpow_add₀ (by norm_num)]
  congr 1; ring

theorem ieee_zero (e m : ℕ) {w : ℕ} (b : BitVec w) (h2 : (b.extractLsb' m e).toNat = 0)
    (h3 : (b.extractLsb' 0 m).toNat = 0) (ht : 0 ≠ 2 ^ e - 1) :
    Ideal.ieee e m b = ((0 : ℝ) : EReal) := by
  unfold Ideal.ieee
  simp only [h2, h3]
  rw [if_neg ht]
  simp

theorem ofBits_W (n : ℕ) (h : n < 255) : Ideal.ofBits .f32 (BitVec.ofNat 32 n <<< 23) = ((W n : ℝ) : EReal) := by
  obtain ⟨h1, h2, h3⟩ := fields ⟨n, by omega⟩
  simp only at h1 h2 h3
  show Ideal.ieee 8 23 _ = _
  by_cases hn : n = 0
  · subst hn; rw [ieee_zero 8 23 _ h2 h3 (by norm_num), W_zero]
  · rw [ieee_plain 8 23 _ h1 n h2 h3 (by norm_num; omega) hn, W_pos hn]
    norm_num

theorem ofBits_top : Ideal.ofBits .f32 (BitVec.ofNat 32 255 <<< 23) = ⊤ := by
  simp [Ideal.ofBits, Ideal.ieee]

/-- One comparison of the search halves the interval. -/
theorem step_spec (b n : ℕ) (T : ℝ) (hT : T < W 255) (hb : 1 ≤ b) (hn : n + 2 * b ≤ 256) (lo : W n ≤ T) (hi : n + 2 * b = 256 ∨ T < W (n + 2 * b)) :
    ∃ n', step (BitVec.ofNat 32 b) (T : EReal) (BitVec.ofNat 32 n) = BitVec.ofNat 32 n' ∧ W n' ≤ T ∧ n' + b ≤ 256 ∧ (n' + b = 256 ∨ T < W (n' + b)) := by
  have e : step (BitVec.ofNat 32 b) (T : EReal) (BitVec.ofNat 32 n)
      = if Ideal.ofBits .f32 (BitVec.ofNat 32 (n + b) <<< 23) ≤ (T : EReal) then BitVec.ofNat 32 (n + b) else BitVec.ofNat 32 n := by
    unfold step
    have ea : IntOp.addi (BitVec.ofNat 32 n) (BitVec.ofNat 32 b) = BitVec.ofNat 32 (n + b) := (BitVec.ofNat_add ..).symm
    rw [ea]
    have es : IntOp.shli .vector (BitVec.ofNat 32 (n + b)) 23#32 = BitVec.ofNat 32 (n + b) <<< 23 := by
      unfold IntOp.shli; rw [if_pos (by decide)]; rfl
    rw [es]
    show Scalar.select (Ideal.cmp .ole (Ideal.ofBits .f32 _) _) _ _ = _
    unfold Scalar.select Ideal.cmp
    by_cases h : Ideal.ofBits .f32 (BitVec.ofNat 32 (n + b) <<< 23) ≤ (T : EReal)
    · simp [h]
    · simp [h]
  rw [e]
  have key : Ideal.ofBits .f32 (BitVec.ofNat 32 (n + b) <<< 23) ≤ (T : EReal) ↔ W (n + b) ≤ T := by
    by_cases h : n + b < 255
    · rw [ofBits_W _ h]; exact EReal.coe_le_coe_iff
    · have h5 : n + b = 255 := by omega
      rw [h5, ofBits_top]
      constructor
      · intro h; exact absurd (top_le_iff.mp h) (EReal.coe_ne_top T)
      · intro h; exact absurd h (not_le.mpr hT)
  by_cases h : W (n + b) ≤ T
  · rw [if_pos (key.mpr h)]
    refine ⟨n + b, rfl, h, by omega, ?_⟩
    rw [show n + b + b = n + 2 * b by ring]; exact hi
  · rw [if_neg (fun hh => h (key.mp hh))]
    exact ⟨n, rfl, lo, by omega, .inr (not_le.mp h)⟩

/-- The eight comparisons find the field. -/
theorem field_spec (T : ℝ) (h0 : 0 ≤ T) (hT : T < W 255) : ∃ n, field (T : EReal) = BitVec.ofNat 32 n ∧ W n ≤ T ∧ n < 256 ∧ (n + 1 = 256 ∨ T < W (n + 1)) := by
  unfold field
  obtain ⟨n1, e1, l1, b1, u1⟩ := step_spec 128 0 T hT (by norm_num) (by norm_num) (by rw [W_zero]; exact h0) (.inl rfl)
  rw [show (128#32 : BitVec 32) = BitVec.ofNat 32 128 from rfl, show (0#32 : BitVec 32) = BitVec.ofNat 32 0 from rfl, e1]
  obtain ⟨n2, e2, l2, b2, u2⟩ := step_spec 64 n1 T hT (by norm_num) b1 l1 u1
  rw [show (64#32 : BitVec 32) = BitVec.ofNat 32 64 from rfl, e2]
  obtain ⟨n3, e3, l3, b3, u3⟩ := step_spec 32 n2 T hT (by norm_num) b2 l2 u2
  rw [show (32#32 : BitVec 32) = BitVec.ofNat 32 32 from rfl, e3]
  obtain ⟨n4, e4, l4, b4, u4⟩ := step_spec 16 n3 T hT (by norm_num) b3 l3 u3
  rw [show (16#32 : BitVec 32) = BitVec.ofNat 32 16 from rfl, e4]
  obtain ⟨n5, e5, l5, b5, u5⟩ := step_spec 8 n4 T hT (by norm_num) b4 l4 u4
  rw [show (8#32 : BitVec 32) = BitVec.ofNat 32 8 from rfl, e5]
  obtain ⟨n6, e6, l6, b6, u6⟩ := step_spec 4 n5 T hT (by norm_num) b5 l5 u5
  rw [show (4#32 : BitVec 32) = BitVec.ofNat 32 4 from rfl, e6]
  obtain ⟨n7, e7, l7, b7, u7⟩ := step_spec 2 n6 T hT (by norm_num) b6 l6 u6
  rw [show (2#32 : BitVec 32) = BitVec.ofNat 32 2 from rfl, e7]
  obtain ⟨n8, e8, l8, b8, u8⟩ := step_spec 1 n7 T hT (by norm_num) b7 l7 u7
  rw [show (1#32 : BitVec 32) = BitVec.ofNat 32 1 from rfl, e8]
  exact ⟨n8, rfl, l8, by omega, u8⟩

theorem W_mono {a b : ℕ} (h : a ≤ b) : W a ≤ W b := by
  by_cases ha : a = 0
  · subst ha; rw [W_zero]; by_cases hb : b = 0
    · subst hb; rw [W_zero]
    · rw [W_pos hb]; positivity
  · rw [W_pos ha, W_pos (by omega)]
    exact zpow_le_zpow_right₀ (by norm_num) (by omega)

/-- The exponent of a positive number between two powers of two, by its logarithm. -/
theorem floor_log (T : ℝ) (z : ℤ) (hl : (2 : ℝ) ^ z ≤ T) (hu : T < (2 : ℝ) ^ (z + 1)) : ⌊Real.log T * (1 / Real.log 2)⌋ = z := by
  have h2 : 0 < Real.log 2 := Real.log_pos (by norm_num)
  have hT : 0 < T := lt_of_lt_of_le (zpow_pos (by norm_num) z) hl
  rw [Int.floor_eq_iff, mul_one_div]
  constructor
  · rw [le_div_iff₀ h2, ← Real.log_zpow]
    exact Real.log_le_log (zpow_pos (by norm_num) z) hl
  · rw [div_lt_iff₀ h2]
    have : ((z : ℝ) + 1) * Real.log 2 = Real.log ((2 : ℝ) ^ (z + 1)) := by rw [Real.log_zpow]; push_cast; ring
    rw [this]
    exact Real.log_lt_log hT hu

theorem zero_f32 : Ideal.ofBits .f32 0x00000000#32 = 0 := by
  simp [Ideal.ofBits, Ideal.ieee]
theorem one_f32 : Ideal.ofBits .f32 0x3F800000#32 = ((1 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem tiny_f32 : Ideal.ofBits .f32 0x00800000#32 = ((W 1 : ℝ) : EReal) := ofBits_W 1 (by norm_num)

/-- Below the least normal number the reference's exponent is zero. -/
theorem rexp_low (T : ℝ) (h : T < W 1) : rexp (T : EReal) = 0 := by
  unfold rexp; rw [tiny_f32, if_pos (EReal.coe_lt_coe_iff.mpr h), zero_f32]

/-- From there on it is the exponent field less 126. -/
theorem rexp_high (T : ℝ) (n : ℕ) (hn : n ≠ 0) (hl : W n ≤ T) (hu : T < W (n + 1)) : rexp (T : EReal) = ((((n : ℤ) - 126 : ℤ) : ℝ) : EReal) := by
  have h1 : W 1 ≤ T := (W_mono (by omega)).trans hl
  have hW1 : 0 < W 1 := by rw [W_pos (by norm_num)]; positivity
  have hT : 0 < T := lt_of_lt_of_le hW1 h1
  unfold rexp
  rw [tiny_f32, if_neg (fun h => absurd (EReal.coe_lt_coe_iff.mp h) (not_lt.mpr h1)), two_f32, one_f32, Ideal.log_coe, Ideal.log_coe,
    if_neg (not_le.mpr hT), if_neg (by norm_num), Ideal.div_coe (ne_of_gt (Real.log_pos (by norm_num))), ← EReal.coe_mul, Ideal.liftRound_coe,
    floor_log T ((n : ℤ) - 127) (by rw [W_pos hn] at hl; exact hl) (by
      rw [W_pos (by omega)] at hu
      rw [show (n : ℤ) - 127 + 1 = ((n + 1 : ℕ) : ℤ) - 127 by push_cast; ring]; exact hu), ← EReal.coe_add]
  congr 1; push_cast; ring

/-- The scale and its inverse from an exponent field that is not special. -/
theorem bits_scale (n : ℕ) (a : EReal) (h : n ≠ 0) (hn : n < 252) (ha : a ≠ 0) :
    Ideal.ofBits .f32 (IntOp.shli .vector (IntOp.addi 127#32 (expOf a (BitVec.ofNat 32 n))) 23#32) = ((W (n + 1) : ℝ) : EReal)
    ∧ Ideal.ofBits .f32 (IntOp.shli .vector (IntOp.subi 127#32 (expOf a (BitVec.ofNat 32 n))) 23#32) = ((W (253 - n) : ℝ) : EReal) := by
  have e : expOf a (BitVec.ofNat 32 n) = BitVec.ofNat 32 n - 126#32 := by
    unfold expOf
    have c1 : IntOp.cmpi .eq (BitVec.ofNat 32 n) 0#32 = 0#1 := by
      show BitVec.ofBool (BitVec.ofNat 32 n == 0#32) = 0#1
      rw [beq_eq_false_iff_ne.mpr (fun hh => by have := congrArg BitVec.toNat hh; simp at this; omega)]; rfl
    have c2 : IntOp.cmpi .eq (BitVec.ofNat 32 n) 255#32 = 0#1 := by
      show BitVec.ofBool (BitVec.ofNat 32 n == 255#32) = 0#1
      rw [beq_eq_false_iff_ne.mpr (fun hh => by have := congrArg BitVec.toNat hh; simp at this; omega)]; rfl
    have c3 : FloatOps.cmpf (F := Ideal) (φ := .f32) .oeq a (FloatOps.ofBits (F := Ideal) .f32 0x00000000#32) = 0#1 := by
      show Ideal.cmp .oeq a (Ideal.ofBits .f32 0x00000000#32) = 0#1
      rw [zero_f32]; unfold Ideal.cmp; simp [ha]
    rw [c1, c2, c3]; rfl
  have sh : ∀ b : BitVec 32, IntOp.shli .vector b 23#32 = b <<< 23 := fun b => by
    unfold IntOp.shli; rw [if_pos (by decide)]; rfl
  rw [e, sh, sh]
  have p : IntOp.addi 127#32 (BitVec.ofNat 32 n - 126#32) = BitVec.ofNat 32 (n + 1) := by
    show 127#32 + (BitVec.ofNat 32 n - 126#32) = _
    rw [BitVec.ofNat_add]; bv_omega
  have q : IntOp.subi 127#32 (BitVec.ofNat 32 n - 126#32) = BitVec.ofNat 32 (253 - n) := by
    show 127#32 - (BitVec.ofNat 32 n - 126#32) = _
    apply BitVec.eq_of_toNat_eq; simp; omega
  rw [p, q, ofBits_W _ (by omega), ofBits_W _ (by omega)]
  exact ⟨rfl, rfl⟩

/-- The exponent of a level with exponent field zero is zero. -/
theorem bits_zero (a : EReal) : expOf a (BitVec.ofNat 32 0) = 0#32 := by
  unfold expOf
  have c1 : IntOp.cmpi .eq (BitVec.ofNat 32 0) 0#32 = 1#1 := by decide
  rw [c1]
  unfold Scalar.select
  rw [if_pos]
  generalize IntOp.cmpi .eq (BitVec.ofNat 32 0) 255#32 = u
  generalize FloatOps.cmpf (F := Ideal) (φ := .f32) .oeq a _ = v
  revert u v; decide

theorem exp2_int (z : ℤ) : Ideal.exp2 (((z : ℝ)) : EReal) = (((2 : ℝ) ^ z : ℝ) : EReal) := by
  rw [Ideal.exp2_coe]; congr 1; exact Real.rpow_intCast 2 z

/-- On a level that is a nonnegative real below `2 ^ 124` the kernel's scale and inverse are the reference's. -/
theorem scale_of_level (a : EReal) (T : ℝ) (h0 : 0 ≤ T) (hT : T < W 251) (ha : a = 0 → T = 0) :
    Ideal.ofBits .f32 (IntOp.shli .vector (IntOp.addi 127#32 (expOf a (field (T : EReal)))) 23#32) = Ideal.exp2 (rexp (T : EReal))
    ∧ Ideal.ofBits .f32 (IntOp.shli .vector (IntOp.subi 127#32 (expOf a (field (T : EReal)))) 23#32) = Ideal.exp2 (Ideal.ofBits .f32 0x00000000#32 - rexp (T : EReal)) := by
  obtain ⟨n, e, l, hn, u⟩ := field_spec T h0 (hT.trans_le (W_mono (by norm_num)))
  have hn' : n < 251 := by
    by_contra hc
    exact absurd ((W_mono (not_lt.mp hc)).trans l) (not_le.mpr hT)
  have u' : T < W (n + 1) := u.resolve_left (by omega)
  rw [e, zero_f32]
  by_cases hz : n = 0
  · subst hz
    have sh : ∀ b : BitVec 32, IntOp.shli .vector b 23#32 = b <<< 23 := fun b => by
      unfold IntOp.shli; rw [if_pos (by decide)]; rfl
    rw [bits_zero, sh, sh, rexp_low T u', show IntOp.addi 127#32 0#32 = BitVec.ofNat 32 127 from rfl, show IntOp.subi 127#32 0#32 = BitVec.ofNat 32 127 from rfl,
      ofBits_W _ (by norm_num), W_pos (by norm_num)]
    have : Ideal.exp2 0 = ((1 : ℝ) : EReal) := by
      have := exp2_int 0; simpa using this
    simp [this]
  · have hT1 : W 1 ≤ T := (W_mono (by omega)).trans l
    have hW1 : 0 < W 1 := by rw [W_pos (by norm_num)]; positivity
    have ha' : a ≠ 0 := fun h => by have := ha h; rw [this] at hT1; exact absurd hT1 (not_le.mpr hW1)
    obtain ⟨s1, s2⟩ := bits_scale n a hz (by omega) ha'
    rw [s1, s2, rexp_high T n hz l u', exp2_int]
    constructor
    · rw [W_pos (by omega)]; congr 2; push_cast; ring
    · rw [zero_sub, ← EReal.coe_neg, ← Int.cast_neg, exp2_int, W_pos (by omega)]
      congr 2; push_cast [Nat.cast_sub (show n ≤ 253 by omega)]; ring

/-! ## A group's level -/

/-- The largest magnitude of a group whose entries are at most `B` in magnitude is a real number between zero and `B`. -/
theorem amax_real (x : Fin 128 → EReal) (B : ℝ) (h : ∀ l, FloatOps.absf (F := Ideal) (φ := .f32) (x l) ≤ (B : EReal)) :
    ∃ r : ℝ, amax x = (r : EReal) ∧ 0 ≤ r ∧ r ≤ B := by
  have hb : Ideal.ofBits .f32 0xFF800000#32 = ⊥ := by simp [Ideal.ofBits, Ideal.ieee]
  have hu : amax x ≤ (B : EReal) := by
    unfold amax; rw [Finset.fold_max_le, hb]; exact ⟨bot_le, fun l _ => h l⟩
  have hl : (0 : EReal) ≤ amax x := by
    unfold amax; rw [Finset.le_fold_max]
    refine .inr ⟨0, Finset.mem_univ _, ?_⟩
    show (0 : EReal) ≤ max (x 0) (-(x 0))
    rcases le_total 0 (x 0) with h | h
    · exact le_max_of_le_left h
    · exact le_max_of_le_right (by rw [EReal.le_neg]; simpa using h)
  have h1 : amax x ≠ ⊤ := fun e => by rw [e] at hu; exact absurd (top_le_iff.mp hu) (EReal.coe_ne_top B)
  have h2 : amax x ≠ ⊥ := fun e => by rw [e] at hl; simp at hl
  refine ⟨(amax x).toReal, (EReal.coe_toReal h1 h2).symm, ?_, ?_⟩
  · rw [← EReal.coe_le_coe_iff, EReal.coe_toReal h1 h2]; exact hl
  · rw [← EReal.coe_le_coe_iff, EReal.coe_toReal h1 h2]; exact hu

/-- The greatest finite number of the input's format. -/
def big : ℝ := 2 ^ 128

/-- The weight that turns the largest magnitude into a level. -/
theorem weight : ∃ w : ℝ, Ideal.ofBits .f32 0x3B124925#32 = (w : EReal) ∧ 0 < w ∧ w < 2 ^ (-8 : ℤ) := by
  refine ⟨(2 ^ 23 + 1198373 : ℕ) * (2 : ℝ) ^ (118 - 127 - 23 : ℤ), ?_, ?_, ?_⟩
  · simp [Ideal.ofBits, Ideal.ieee, -EReal.coe_mul]
  · positivity
  · norm_num

/-- The kernel's scale and inverse of a group of finite entries are the reference's. -/
theorem scale_eq (x : Fin 128 → EReal) (h : ∀ l, FloatOps.absf (F := Ideal) (φ := .f32) (x l) ≤ (big : EReal)) :
    kscale x = rscale x ∧ kinv x = rinv x := by
  obtain ⟨r, hr, r0, rB⟩ := amax_real x big h
  obtain ⟨w, hw, w0, w1⟩ := weight
  have hl : level x = ((r * w : ℝ) : EReal) := by unfold level; rw [hr, hw, EReal.coe_mul]
  unfold kscale kinv rscale rinv kexp
  rw [hl]
  refine scale_of_level (amax x) (r * w) (mul_nonneg r0 w0.le) ?_ fun e => ?_
  · rw [W_pos (by norm_num)]
    calc r * w ≤ big * w := mul_le_mul_of_nonneg_right rB w0.le
      _ < 2 ^ 128 * 2 ^ (-8 : ℤ) := by unfold big; exact mul_lt_mul_of_pos_left w1 (by positivity)
      _ ≤ (2 : ℝ) ^ (((251 : ℕ) : ℤ) - 127) := by norm_num
  · rw [hr] at e
    have : r = 0 := by exact_mod_cast e
    rw [this, zero_mul]

end Cert.Dora

end
-- ==== Proof.Model.lean ====
module

public import proofs.«01_k».proof.Proof.Exponent

@[expose] public section

noncomputable section

/-! # The kernel's product is the reference's

The kernel puts the low-rank product beside the codes and half the second low-rank factor under the base weights, and
multiplies once; the reference adds the two products. -/

namespace Cert.Dora

open Idealize.ShloMosaic

/-- The reference's result at a row and a column. -/
def ry (x : Fin 1536 → EReal) (wc : Fin 1536 → Fin 5120 → EReal) (ws : Fin 12 → Fin 40 → EReal) (d : Fin 1536 → Fin 48 → EReal)
    (u : Fin 48 → Fin 5120 → EReal) (mag : Fin 5120 → EReal) (j : Fin 5120) : EReal :=
  ((∑ k, (rcode x k * rscale (seg x (grp k))) * w0 wc ws k j) + half * ∑ q, (∑ k, x k * d k q) * u q j) * Ideal.div (mag j) (norm wc ws d u j)

theorem half_eq : half = (((1 / 2 : ℝ)) : EReal) := by
  unfold half; simp [Ideal.ofBits, Ideal.ieee, -EReal.coe_mul]; norm_num

theorem halfb_eq : halfb = (((1 / 2 : ℝ)) : EReal) := by
  unfold halfb; simp [Ideal.ofBits, Ideal.ieee, -EReal.coe_mul]; norm_num

/-- A finite nonnegative factor goes through a sum. -/
theorem mul_sum_real {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A sum over the 1792 columns of the left factor: the codes' 1536, the low-rank 48 and the 208 of padding. -/
theorem sum_split (f : Fin 1792 → EReal) :
    ∑ k, f k = (∑ k : Fin 1536, f ⟨k.val, by omega⟩) + ((∑ q : Fin 48, f ⟨1536 + q.val, by omega⟩) + ∑ p : Fin 208, f ⟨1536 + (48 + p.val), by omega⟩) := by
  have h1 := Fin.sum_univ_add (a := 1536) (b := 256) f
  have h2 := Fin.sum_univ_add (a := 48) (b := 208) (fun i : Fin 256 => f (Fin.natAdd 1536 i))
  rw [h2] at h1
  exact h1

/-- The kernel's result is the reference's, when the scales agree. -/
theorem ky_eq_ry (x : Fin 1536 → EReal) (wc : Fin 1536 → Fin 5120 → EReal) (ws : Fin 12 → Fin 40 → EReal) (d : Fin 1536 → Fin 48 → EReal)
    (u : Fin 48 → Fin 5120 → EReal) (mag : Fin 5120 → EReal) (j : Fin 5120) (h : ∀ g, kscale (seg x g) = rscale (seg x g) ∧ kinv (seg x g) = rinv (seg x g)) :
    ky (klhs x d) (fun k => waug wc ws u k j) (Ideal.div (mag j) (norm wc ws d u j)) = ry x wc ws d u mag j := by
  unfold ky ry
  congr 1
  rw [sum_split]
  congr 1
  · refine Finset.sum_congr rfl fun k _ => ?_
    unfold klhs waug kcode rcode
    beta_reduce
    rw [dif_pos k.isLt, dif_pos k.isLt, (h _).1, (h _).2]
  · have hp : ∑ p : Fin 208, klhs x d ⟨1536 + (48 + p.val), by omega⟩ * waug wc ws u ⟨1536 + (48 + p.val), by omega⟩ j = 0 := by
      refine Finset.sum_eq_zero fun p _ => ?_
      unfold klhs waug
      rw [dif_neg (by simp), dif_neg (by simp), zero_mul]
    rw [hp, add_zero, half_eq, mul_sum_real _ _ (by norm_num)]
    refine Finset.sum_congr rfl fun q _ => ?_
    unfold klhs waug
    beta_reduce
    have hq : 1536 + q.val - 1536 = q.val := by omega
    rw [dif_neg (by simp), dif_pos (by simp), dif_neg (by simp), dif_pos (by simp), halfb_eq]
    simp only [hq, Fin.eta]
    rw [← mul_assoc, mul_comm]

/-- The kernel's code is the reference's, when the scales agree. -/
theorem kcode_eq_rcode (x : Fin 1536 → EReal) (h : ∀ g, kscale (seg x g) = rscale (seg x g) ∧ kinv (seg x g) = rinv (seg x g)) (j : Fin 1536) : kcode x j = rcode x j := by
  unfold kcode rcode; rw [(h _).2]

/-- The greatest finite number of the input's format is below `2 ^ 128`. -/
theorem limit_le : Ideal.ofBits .f32 0x7F7F0000#32 ≤ ((big : ℝ) : EReal) := by
  have : Ideal.ofBits .f32 0x7F7F0000#32 = (((2 ^ 23 + 8323072 : ℕ) * (2 : ℝ) ^ (254 - 127 - 23 : ℤ) : ℝ) : EReal) := by
    simp [Ideal.ofBits, Ideal.ieee, -EReal.coe_mul]
  rw [this, EReal.coe_le_coe_iff]
  unfold big; norm_num

/-- The scales agree on a row of finite entries. -/
theorem row_scales (x : Fin 1536 → EReal) (h : ∀ j, FloatOps.absf (F := Ideal) (φ := .f32) (x j) ≤ Ideal.ofBits .f32 0x7F7F0000#32) (g : Fin 12) :
    kscale (seg x g) = rscale (seg x g) ∧ kinv (seg x g) = rinv (seg x g) :=
  scale_eq _ fun _ => (h _).trans limit_le

end Cert.Dora

end
-- ==== Proof.KVal.lean ====
module

public import proofs.«01_k».proof.Proof.Launch
public import proofs.«01_k».proof.Proof.Quant
public import proofs.«01_k».proof.Proof.Model

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem
open Idealize.ShloMosaic.Pipeline (Dat Cfg Window)
open Cert.KernelIdeal.Gen
open Cert.Dora

variable (m : (ℓ : Loc nD τ sig) → Buf (Elt Ideal) ℓ)

/-! # What the kernel leaves in its four result arrays -/

/-- The arguments, as index functions. -/
abbrev X (c : Dev nD) (b : Fin 24) (r : Fin 512) (j : Fin 1536) : EReal := (m ((c : Thread nD τ).loc main_arg0) : Vec Ideal S24x512x1536 .bf16) (ix3 b r j)
abbrev WC (c : Dev nD) (r : Fin 1536) (j : Fin 5120) : EReal := (m ((c : Thread nD τ).loc main_arg1) : Vec Ideal S1536x5120 .fp8e4m3) (ix2 r j)
abbrev WS (c : Dev nD) (g : Fin 12) (b : Fin 40) : EReal := (m ((c : Thread nD τ).loc main_arg2) : Vec Ideal S12x40 .f32) (ix2 g b)
abbrev DN (c : Dev nD) (r : Fin 1536) (q : Fin 48) : EReal := (m ((c : Thread nD τ).loc main_arg3) : Vec Ideal S1536x48 .bf16) (ix2 r q)
abbrev UP (c : Dev nD) (q : Fin 48) (j : Fin 5120) : EReal := (m ((c : Thread nD τ).loc main_arg4) : Vec Ideal S48x5120 .bf16) (ix2 q j)
abbrev MG (c : Dev nD) (j : Fin 5120) : EReal := (m ((c : Thread nD τ).loc main_arg5) : Vec Ideal S5120 .f32) (ix1 j)

theorem ix_0 : ∀ t : Fin cfg0.N, win0_0.index t = ![(grid0.coords t 0).val, 0, 0] := by decide +kernel
theorem ix_6 : ∀ t : Fin cfg0.N, win0_6.index t = ![(grid0.coords t 0).val, 0, 0] := by decide +kernel
theorem ix_8 : ∀ t : Fin cfg0.N, win0_8.index t = ![(grid0.coords t 0).val, 0, 0] := by decide +kernel
theorem ix_9 : ∀ t : Fin cfg0.N, win0_9.index t = ![(grid0.coords t 0).val, 0, 0] := by decide +kernel

/-- Row `r` of the input's block at a point is row `r` of the batch of that point. -/
theorem iblk0_at (c : Dev nD) (t : Fin cfg0.N) (r : Fin 512) (j : Fin 1536) (b : Fin 24) (hb : b.val = (grid0.coords t 0).val) :
    (iblk m c 0 t : Vec Ideal S1x512x1536 .bf16) (ix3 0 r j) = X m c b r j := by
  unfold X
  blk_simp [iblk]
  rw [show V m c main_arg0 = m ((c : Thread nD τ).loc main_arg0) from V_main_arg0 m c]
  congr 1
  blk_ext [ix_0]

theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, 0] := by decide +kernel
theorem ix_5 : ∀ t : Fin cfg0.N, win0_5.index t = ![0, 0] := by decide +kernel

/-- The other operands' blocks are the whole arrays. -/
theorem iblk1_at (c : Dev nD) (t : Fin cfg0.N) (r : Fin 1536) (j : Fin 5120) : (iblk m c 1 t : Vec Ideal S1536x5120 .fp8e4m3) (ix2 r j) = WC m c r j := by
  unfold WC
  blk_simp [iblk]
  rw [show V m c main_arg1 = m ((c : Thread nD τ).loc main_arg1) from V_main_arg1 m c]
  congr 1
  blk_ext [ix_1]

theorem iblk2_at (c : Dev nD) (t : Fin cfg0.N) (r : Fin 12) (j : Fin 40) : (iblk m c 2 t : Vec Ideal S12x40 .f32) (ix2 r j) = WS m c r j := by
  unfold WS
  blk_simp [iblk]
  rw [show V m c main_arg2 = m ((c : Thread nD τ).loc main_arg2) from V_main_arg2 m c]
  congr 1
  blk_ext [ix_2]

theorem iblk3_at (c : Dev nD) (t : Fin cfg0.N) (r : Fin 1536) (j : Fin 48) : (iblk m c 3 t : Vec Ideal S1536x48 .bf16) (ix2 r j) = DN m c r j := by
  unfold DN
  blk_simp [iblk]
  rw [show V m c main_arg3 = m ((c : Thread nD τ).loc main_arg3) from V_main_arg3 m c]
  congr 1
  blk_ext [ix_3]

theorem iblk4_at (c : Dev nD) (t : Fin cfg0.N) (r : Fin 48) (j : Fin 5120) : (iblk m c 4 t : Vec Ideal S48x5120 .bf16) (ix2 r j) = UP m c r j := by
  unfold UP
  blk_simp [iblk]
  rw [show V m c main_arg4 = m ((c : Thread nD τ).loc main_arg4) from V_main_arg4 m c]
  congr 1
  blk_ext [ix_4]

/-- The host's reshape of the magnitudes. -/
theorem V_main_v0 (c : Dev nD) : (V m c main_v0 : Vec Ideal S1x5120 .f32) = shapeCast S1x5120 (m ((c : Thread nD τ).loc main_arg5) : Vec Ideal S5120 .f32) shapeCasts_S5120_S1x5120 := by
  show StableHlo.after hostOps0 _ _ = _
  unfold hostOps0
  rw [StableHlo.after_cons, StableHlo.after_nil, StableHlo.reshape_result]
  rfl

theorem cast_row (v : Vec Ideal S5120 .f32) (j : Fin 5120) : shapeCast S1x5120 v shapeCasts_S5120_S1x5120 (ix2 0 j) = v (ix1 j) := by
  pointwise []

theorem iblk5_at (c : Dev nD) (t : Fin cfg0.N) (j : Fin 5120) : (iblk m c 5 t : Vec Ideal S1x5120 .f32) (ix2 0 j) = MG m c j := by
  unfold MG
  have e : (iblk m c 5 t : Vec Ideal S1x5120 .f32) (ix2 0 j) = (V m c main_v0 : Vec Ideal S1x5120 .f32) (ix2 0 j) := by
    blk_simp [iblk]
    congr 1
    blk_ext [ix_5]
  rw [e, V_main_v0]
  exact cast_row _ j

/-- The codes of a point, at an entry of the whole array. -/
theorem codes_point (c : Dev nD) (t : Fin cfg0.N) (y : S1x512x1536.Idx) (i : S24x512x1536.Idx) (h0 : (i 0).val = (grid0.coords t 0).val)
    (h1 : (i 1).val = (y 1).val) (h2 : (i 2).val = (y 2).val) : QV (iblk m c 0 t) y = kcode (X m c (i 0) (i 1)) (i 2) := by
  unfold QV
  rw [codes_eq]
  rw [show y 1 = i 1 from Fin.ext h1.symm, show y 2 = i 2 from Fin.ext h2.symm]
  congr 1
  funext j
  exact iblk0_at m c t (i 1) j (i 0) h0

/-- The codes. -/
theorem final_codes (c : Dev nD) : (dats m 0 c).arrAt 8 cfg0.N = (fun i => kcode (X m c (i 0) (i 1)) (i 2) : Vec Ideal S24x512x1536 .fp8e4m3) := by
  refine (dats m 0 c).arrAt_eq_of_covers 8 _ (by decide +kernel) fun t hf y => ?_
  blk_simp
  rw [after0_8]
  refine codes_point m c t y _ ?_ ?_ ?_ <;> blk_simp [ix_8] <;> simp

/-- The scales of a point, at an entry of the whole array. -/
theorem scales_point (c : Dev nD) (t : Fin cfg0.N) (y : S1x512x12.Idx) (i : S24x512x12.Idx) (h0 : (i 0).val = (grid0.coords t 0).val)
    (h1 : (i 1).val = (y 1).val) (h2 : (i 2).val = (y 2).val) : SV (iblk m c 0 t) y = kscale (seg (X m c (i 0) (i 1)) (i 2)) := by
  unfold SV
  rw [scales_eq]
  rw [show y 1 = i 1 from Fin.ext h1.symm, show y 2 = i 2 from Fin.ext h2.symm]
  congr 2
  funext j
  exact iblk0_at m c t (i 1) j (i 0) h0

/-- The scales. -/
theorem final_scales (c : Dev nD) : (dats m 0 c).arrAt 9 cfg0.N = (fun i => kscale (seg (X m c (i 0) (i 1)) (i 2)) : Vec Ideal S24x512x12 .f32) := by
  refine (dats m 0 c).arrAt_eq_of_covers 9 _ (by decide +kernel) fun t hf y => ?_
  blk_simp
  rw [after0_9]
  refine scales_point m c t y _ ?_ ?_ ?_ <;> blk_simp [ix_9] <;> simp

/-- What the preparation leaves, over the arguments. -/
theorem NT_at (c : Dev nD) (y : S1x5120.Idx) : NT m c y = Dora.norm (WC m c) (WS m c) (DN m c) (UP m c) (y 1) := by
  unfold NT NI
  simp only [iblk1_at, iblk2_at, iblk3_at, iblk4_at]

theorem CT_at (c : Dev nD) (j : Fin 5120) : CT m c (ix2 0 j) = Ideal.div (MG m c j) (Dora.norm (WC m c) (WS m c) (DN m c) (UP m c) j) := by
  unfold CT CI
  simp only [iblk1_at, iblk2_at, iblk3_at, iblk4_at, ix2_1, iblk5_at]

theorem WT_at (c : Dev nD) (k : Fin 1792) (j : Fin 5120) : WT m c (ix2 k j) = waug (WC m c) (WS m c) (UP m c) k j := by
  unfold WT WI
  simp only [iblk1_at, iblk2_at, iblk4_at, ix2_0, ix2_1]

/-- The kernel's result over the arguments. -/
def KY (c : Dev nD) (b : Fin 24) (r : Fin 512) (j : Fin 5120) : EReal :=
  ky (klhs (X m c b r) (DN m c)) (fun k => waug (WC m c) (WS m c) (UP m c) k j) (Ideal.div (MG m c j) (Dora.norm (WC m c) (WS m c) (DN m c) (UP m c) j))

theorem lhs_at (c : Dev nD) (t : Fin cfg0.N) (b : Fin 24) (r : Fin 512) (k : Fin 1792) (h0 : b.val = (grid0.coords t 0).val) :
    lhs (iblk m c 0 t) (iblk m c 3 t0) (ix2 r k) = klhs (X m c b r) (DN m c) k := by
  rw [lhs_eq]
  show klhs (fun j => (iblk m c 0 t : Vec Ideal S1x512x1536 .bf16) (ix3 0 r j)) (fun q k => (iblk m c 3 t0 : Vec Ideal S1536x48 .bf16) (ix2 q k)) k = _
  rw [show (fun j => (iblk m c 0 t : Vec Ideal S1x512x1536 .bf16) (ix3 0 r j)) = X m c b r from funext fun j => iblk0_at m c t r j b h0,
    show (fun q k => (iblk m c 3 t0 : Vec Ideal S1536x48 .bf16) (ix2 q k)) = DN m c from funext fun q => funext fun k => iblk3_at m c t0 q k]

theorem y_row (c : Dev nD) (t : Fin cfg0.N) (y : S1x512x5120.Idx) (b : Fin 24) (r : Fin 512) (j : Fin 5120) (h0 : b.val = (grid0.coords t 0).val)
    (h1 : r.val = (y 1).val) (h2 : j.val = (y 2).val) : YV (iblk m c 0 t) (iblk m c 3 t0) (WT m c) (CT m c) y = KY m c b r j := by
  unfold YV KY
  rw [y_eq]
  obtain rfl : r = y 1 := Fin.ext h1
  obtain rfl : j = y 2 := Fin.ext h2
  rw [show (fun k => lhs (iblk m c 0 t) (iblk m c 3 t0) (ix2 (y 1) k)) = klhs (X m c b (y 1)) (DN m c) from funext fun k => lhs_at m c t b (y 1) k h0,
    show (fun k => WT m c (ix2 k (y 2))) = (fun k => waug (WC m c) (WS m c) (UP m c) k (y 2)) from funext fun k => WT_at m c k (y 2)]
  exact congrArg _ (CT_at m c (y 2))

/-- The result of a point, at an entry of the whole array. -/
theorem y_point (c : Dev nD) (t : Fin cfg0.N) (y : S1x512x5120.Idx) (i : S24x512x5120.Idx) (h0 : (i 0).val = (grid0.coords t 0).val)
    (h1 : (i 1).val = (y 1).val) (h2 : (i 2).val = (y 2).val) :
    YV (iblk m c 0 t) (iblk m c 3 t0) (WT m c) (CT m c) y = KY m c (i 0) (i 1) (i 2) :=
  y_row m c t y (i 0) (i 1) (i 2) h0 h1 h2

/-- The result. -/
theorem final_y (c : Dev nD) : (dats m 0 c).arrAt 6 cfg0.N
    = (fun i => KY m c (i 0) (i 1) (i 2) : Vec Ideal S24x512x5120 .bf16) := by
  refine (dats m 0 c).arrAt_eq_of_covers 6 _ (by decide +kernel) fun t hf y => ?_
  blk_simp
  rw [after0_6]
  refine y_point m c t y _ ?_ ?_ ?_ <;> blk_simp [ix_6] <;> simp

/-- The last grid point. -/
def t23 : Fin cfg0.N := ⟨23, by rw [show cfg0.N = 24 from N_0]; decide⟩

/-- The norms. -/
theorem final_norm (c : Dev nD) : (dats m 0 c).arrAt 7 cfg0.N = (fun i => Dora.norm (WC m c) (WS m c) (DN m c) (UP m c) (i 1) : Vec Ideal S1x5120 .f32) := by
  refine (dats m 0 c).arrAt_eq_of_after_last 7 t23 (by decide +kernel) _ fun y => ?_
  rw [after0_7]
  blk_simp
  exact NT_at m c y

end Cert.KernelIdeal.Hand

end
-- ==== Proof.RefQuant.lean ====
module

public import proofs.«01_k».proof.Proof.Exponent
public import proofs.«01_k».proof.Proof.Gen.ReferenceIdeal.Frame
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Cert.ReferenceIdeal.Gen
open Cert.Dora

/-! # The reference's quantiser, entry by entry -/

/-- Row `r` of batch `b`. -/
abbrev xrow (X : Vec Ideal S24x512x1536 .bf16) (b : Fin 24) (r : Fin 512) : Fin 1536 → EReal := fun j => X (ix3 b r j)

theorem k0_pay2_at (X : Vec Ideal S24x512x1536 .bf16) (b : Fin 24) (r : Fin 512) (g : Fin 12) (l : Fin 128) :
    k0_pay2 X (ix4 b r g l) = seg (xrow X b r) g l := by
  pointwise [k0_pay2]
  rfl

/-- The largest magnitudes of the groups. -/
def top (V : FVec Ideal S24x512x12x128 .f32) : FVec Ideal S24x512x12 .f32 :=
  multiReduction .maximumf [3] S24x512x12 (absf V) 0xFF800000#32 reduces_S24x512x12x128_S24x512x12 (.inl rfl) rfl

theorem top_at (V : FVec Ideal S24x512x12x128 .f32) (b : Fin 24) (r : Fin 512) (g : Fin 12) :
    top V (ix3 b r g) = amax (fun l => V (ix4 b r g l)) := by
  pointwise [top]
  rfl

/-- The exponents of the groups from their largest magnitudes. -/
def expo (T : FVec Ideal S24x512x12 .f32) : FVec Ideal S24x512x12 .f32 :=
  select (cmpf .olt (mulf T (broadcast S24x512x12 (Scalar.ofBits .f32 0x3B124925#32))) (broadcast S24x512x12 (Scalar.ofBits .f32 0x00800000#32)))
    (broadcast S24x512x12 (Scalar.ofBits .f32 0x00000000#32))
    (addf (floor (divf (log (mulf T (broadcast S24x512x12 (Scalar.ofBits .f32 0x3B124925#32)))) (log (broadcast S24x512x12 (Scalar.ofBits .f32 0x40000000#32)))))
      (broadcast S24x512x12 (Scalar.ofBits .f32 0x3F800000#32)))

theorem k0_pay3_eq (X : Vec Ideal S24x512x1536 .bf16) : k0_pay3 X = expo (top (k0_pay2 X)) := by
  unfold k0_pay3 expo top; rfl

theorem expo_at (T : FVec Ideal S24x512x12 .f32) (i : S24x512x12.Idx) : expo T i = rexp (T i * Ideal.ofBits .f32 0x3B124925#32) := by
  have e : expo T i = Scalar.select (FloatOps.cmpf (F := Ideal) (φ := .f32) .olt (T i * Ideal.ofBits .f32 0x3B124925#32) (Ideal.ofBits .f32 0x00800000#32)) (Ideal.ofBits .f32 0x00000000#32)
      (Ideal.liftRound Int.floor (Ideal.div (Ideal.log (T i * Ideal.ofBits .f32 0x3B124925#32)) (Ideal.log (Ideal.ofBits .f32 0x40000000#32))) + Ideal.ofBits .f32 0x3F800000#32) := by
    unfold expo; rfl
  rw [e]
  generalize T i * Ideal.ofBits .f32 0x3B124925#32 = u
  unfold rexp
  generalize Ideal.ofBits .f32 0x00800000#32 = v
  show Scalar.select (Ideal.cmp .olt u v) _ _ = _
  unfold Scalar.select Ideal.cmp
  by_cases h : u < v
  · simp [h]
  · simp [h]

theorem k0_pay3_at (X : Vec Ideal S24x512x1536 .bf16) (b : Fin 24) (r : Fin 512) (g : Fin 12) :
    k0_pay3 X (ix3 b r g) = rexp (level (seg (xrow X b r) g)) := by
  have e : top (k0_pay2 X) (ix3 b r g) = amax (seg (xrow X b r) g) := by
    rw [top_at]; congr 1; funext l; exact k0_pay2_at X b r g l
  unfold level
  rw [k0_pay3_eq, expo_at, e]

theorem exp2_at (E : FVec Ideal S24x512x12 .f32) (i : S24x512x12.Idx) : (exp2 E) i = Ideal.exp2 (E i) := rfl

theorem k0_pay4_eq (X : Vec Ideal S24x512x1536 .bf16) : k0_pay4 X = exp2 (k0_pay3 X) := by
  delta k0_pay4; exact Eq.refl _

theorem k0_pay4_at (X : Vec Ideal S24x512x1536 .bf16) (b : Fin 24) (r : Fin 512) (g : Fin 12) :
    k0_pay4 X (ix3 b r g) = rscale (seg (xrow X b r) g) := by
  rw [k0_pay4_eq, exp2_at, k0_pay3_at]; exact Eq.refl _

theorem k0_pay6_at (V : FVec Ideal S24x512x12x128 .f32) (E : FVec Ideal S24x512x12 .f32) (b : Fin 24) (r : Fin 512) (j : Fin 1536) :
    k0_pay6 V E k0_pay5 (ix3 b r j) = clamp (V (ix4 b r (grp j) ⟨j.val % 128, by omega⟩) * Ideal.exp2 (Ideal.ofBits .f32 0x00000000#32 - E (ix3 b r (grp j)))) := by
  pointwise [k0_pay6, k0_pay5]
  rfl

theorem codes_at (X : Vec Ideal S24x512x1536 .bf16) (b : Fin 24) (r : Fin 512) (j : Fin 1536) :
    k0_pay6 (k0_pay2 X) (k0_pay3 X) k0_pay5 (ix3 b r j) = rcode (xrow X b r) j := by
  rw [k0_pay6_at, k0_pay2_at, k0_pay3_at]
  unfold rcode rinv
  congr 2
  unfold seg
  show X _ = X _
  congr 2
  apply Fin.ext
  show j.val / 128 * 128 + j.val % 128 = j.val
  omega

end Cert.ReferenceIdeal.Hand

end
-- ==== Proof.RefNorm.lean ====
module

public import proofs.«01_k».proof.Proof.Exponent
public import proofs.«01_k».proof.Proof.Gen.ReferenceIdeal.Frame
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Cert.ReferenceIdeal.Gen
open Cert.Dora

/-! # The reference's norms, entry by entry -/

/-- The norm of a column. -/
theorem k0_pay1_at (wc : Vec Ideal S1536x5120 .fp8e4m3) (ws : Vec Ideal S12x40 .f32) (d : Vec Ideal S1536x48 .bf16) (u : Vec Ideal S48x5120 .bf16) (j : Fin 5120) :
    k0_pay1 wc ws d u (ix1 j) = Dora.norm (fun r j => wc (ix2 r j)) (fun g b => ws (ix2 g b)) (fun r q => d (ix2 r q)) (fun q j => u (ix2 q j)) j := by
  pointwise [k0_pay1]
  rfl

theorem k0_pay8_at (n : FVec Ideal S5120 .f32) (j : Fin 5120) : k0_pay8 n (ix2 0 j) = n (ix1 j) := by
  pointwise [k0_pay8]

end Cert.ReferenceIdeal.Hand

end
-- ==== Proof.RefY.lean ====
module

public import proofs.«01_k».proof.Proof.Exponent
public import proofs.«01_k».proof.Proof.Gen.ReferenceIdeal.Frame
public import Idealize.ShloMosaic.Lib.Pointwise

@[expose] public section

set_option maxRecDepth 16384

noncomputable section

namespace Cert.ReferenceIdeal.Hand

open Idealize.ShloMosaic Idealize.ShloMosaic.TcCoe Idealize.ShloMosaic.Tactic
open Cert.ReferenceIdeal.Gen
open Cert.Dora

/-! # The reference's result, entry by entry -/

/-- The scaled codes. -/
def xw (C : FVec Ideal S24x512x1536 .fp8e4m3) (s : FVec Ideal S24x512x12 .f32) : FVec Ideal S24x512x1536 .bf16 :=
  shapeCast S24x512x1536 (mulf (shapeCast S24x512x12x128 (extf .bf16 C bitsLt_fp8e4m3_bf16) shapeCasts_S24x512x1536_S24x512x12x128)
    (broadcastTo S24x512x12x128 (shapeCast S24x512x12x1 (truncf .bf16 s bitsLt_bf16_f32) shapeCasts_S24x512x12_S24x512x12x1) broadcasts_S24x512x12x1_S24x512x12x128))
    shapeCasts_S24x512x12x128_S24x512x1536

theorem xw_at (C : FVec Ideal S24x512x1536 .fp8e4m3) (s : FVec Ideal S24x512x12 .f32) (b : Fin 24) (r : Fin 512) (k : Fin 1536) :
    xw C s (ix3 b r k) = C (ix3 b r k) * s (ix3 b r (grp k)) := by
  pointwise [xw]
  rfl

/-- The base weights. -/
def ww (wc : Vec Ideal S1536x5120 .fp8e4m3) (ws : Vec Ideal S12x40 .f32) : FVec Ideal S1536x5120 .bf16 :=
  shapeCast S1536x5120 (mulf (shapeCast S12x128x40x128 (extf (F := Ideal) .bf16 wc bitsLt_fp8e4m3_bf16) shapeCasts_S1536x5120_S12x128x40x128)
    (broadcastTo S12x128x40x128 (shapeCast S12x1x40x1 (truncf (F := Ideal) .bf16 ws bitsLt_bf16_f32) shapeCasts_S12x40_S12x1x40x1) broadcasts_S12x1x40x1_S12x128x40x128))
    shapeCasts_S12x128x40x128_S1536x5120

theorem ww_at (wc : Vec Ideal S1536x5120 .fp8e4m3) (ws : Vec Ideal S12x40 .f32) (k : Fin 1536) (j : Fin 5120) :
    ww wc ws (ix2 k j) = w0 (fun r j => wc (ix2 r j)) (fun g b => ws (ix2 g b)) k j := by
  pointwise [ww]
  rfl

/-- The low-rank product of the input. -/
def hh (X : Vec Ideal S24x512x1536 .bf16) (d : Vec Ideal S1536x48 .bf16) : FVec Ideal S24x512x48 .bf16 :=
  truncf .bf16 (matmul (φ₁ := .bf16) (φ₂ := .bf16) dot_S24x512x1536_S1536x48_S24x512x48_2_0_01_1_n_n none X d (constant S24x512x48 .f32 0x00000000#32)) bitsLt_bf16_f32

theorem hh_at (X : Vec Ideal S24x512x1536 .bf16) (d : Vec Ideal S1536x48 .bf16) (b : Fin 24) (r : Fin 512) (q : Fin 48) :
    hh X d (ix3 b r q) = ∑ k : Fin 1536, X (ix3 b r k) * d (ix2 k q) := by
  pointwise [hh]

/-- The base product. -/
def bb (A : FVec Ideal S24x512x1536 .bf16) (B : FVec Ideal S1536x5120 .bf16) : FVec Ideal S24x512x5120 .f32 :=
  matmul (φ₁ := .bf16) (φ₂ := .bf16) dot_S24x512x1536_S1536x5120_S24x512x5120_2_0_01_1_n_n none A B (constant S24x512x5120 .f32 0x00000000#32)

theorem bb_at (A : FVec Ideal S24x512x1536 .bf16) (B : FVec Ideal S1536x5120 .bf16) (b : Fin 24) (r : Fin 512) (j : Fin 5120) :
    bb A B (ix3 b r j) = ∑ k : Fin 1536, A (ix3 b r k) * B (ix2 k j) := by
  pointwise [bb]

/-- The low-rank product of the input with the second factor. -/
def ll (A : FVec Ideal S24x512x48 .bf16) (B : FVec Ideal S48x5120 .bf16) : FVec Ideal S24x512x5120 .f32 :=
  matmul (φ₁ := .bf16) (φ₂ := .bf16) dot_S24x512x48_S48x5120_S24x512x5120_2_0_01_1_n_n none A B (constant S24x512x5120 .f32 0x00000000#32)

theorem ll_at (A : FVec Ideal S24x512x48 .bf16) (B : FVec Ideal S48x5120 .bf16) (b : Fin 24) (r : Fin 512) (j : Fin 5120) :
    ll A B (ix3 b r j) = ∑ q : Fin 48, A (ix3 b r q) * B (ix2 q j) := by
  pointwise [ll]

/-- The column factors. -/
def cc (mag n : FVec Ideal S5120 .f32) : FVec Ideal S24x512x5120 .f32 :=
  broadcastTo S24x512x5120 (shapeCast S1x1x5120 (divf mag n) shapeCasts_S5120_S1x1x5120) broadcasts_S1x1x5120_S24x512x5120

theorem cc_at (mag n : FVec Ideal S5120 .f32) (b : Fin 24) (r : Fin 512) (j : Fin 5120) :
    cc mag n (ix3 b r j) = Ideal.div (mag (ix1 j)) (n (ix1 j)) := by
  pointwise [cc]
  try rfl

theorem k0_pay7_eq (X : Vec Ideal S24x512x1536 .bf16) (wc : Vec Ideal S1536x5120 .fp8e4m3) (ws : Vec Ideal S12x40 .f32) (d : Vec Ideal S1536x48 .bf16)
    (u : Vec Ideal S48x5120 .bf16) (mag : Vec Ideal S5120 .f32) (n : FVec Ideal S5120 .f32) (V : FVec Ideal S24x512x12x128 .f32) (E s z : FVec Ideal S24x512x12 .f32) :
    k0_pay7 X wc ws d u mag n V E s z
      = truncf .bf16 (mulf (addf (bb (xw (k0_pay6 V E z) s) (ww wc ws)) (mulf (broadcast S24x512x5120 (Scalar.ofBits (F := Ideal) .f32 0x3F000000#32)) (ll (hh X d) u))) (cc mag n)) bitsLt_bf16_f32 := by
  unfold k0_pay7 bb xw ww ll hh cc; rfl

/-- The result at a row and a column. -/
theorem k0_pay7_at (X : Vec Ideal S24x512x1536 .bf16) (wc : Vec Ideal S1536x5120 .fp8e4m3) (ws : Vec Ideal S12x40 .f32) (d : Vec Ideal S1536x48 .bf16)
    (u : Vec Ideal S48x5120 .bf16) (mag : Vec Ideal S5120 .f32) (n : FVec Ideal S5120 .f32) (V : FVec Ideal S24x512x12x128 .f32) (E s z : FVec Ideal S24x512x12 .f32)
    (b : Fin 24) (r : Fin 512) (j : Fin 5120) :
    k0_pay7 X wc ws d u mag n V E s z (ix3 b r j)
      = ((∑ k : Fin 1536, (k0_pay6 V E z (ix3 b r k) * s (ix3 b r (grp k))) * w0 (fun r j => wc (ix2 r j)) (fun g b => ws (ix2 g b)) k j)
          + half * ∑ q : Fin 48, (∑ k : Fin 1536, X (ix3 b r k) * d (ix2 k q)) * u (ix2 q j)) * Ideal.div (mag (ix1 j)) (n (ix1 j)) := by
  rw [k0_pay7_eq]
  show (bb (xw (k0_pay6 V E z) s) (ww wc ws) (ix3 b r j) + half * ll (hh X d) u (ix3 b r j)) * cc mag n (ix3 b r j) = _
  rw [bb_at, ll_at, cc_at]
  simp only [xw_at, ww_at, hh_at]

end Cert.ReferenceIdeal.Hand

end
-- ==== Proof.RefVal.lean ====
module

public import proofs.«01_k».proof.Proof.RefQuant
public import proofs.«01_k».proof.Proof.RefNorm
public import proofs.«01_k».proof.Proof.RefY
public import proofs.«01_k».proof.Proof.Model
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic
open Idealize.SL Idealize.SL.RA Idealize.SL.BI
open Idealize.SL.Sem
open Idealize.ShloMosaic.Pipeline (Dat Cfg Window)
open Cert.ReferenceIdeal.Gen
open Cert.Dora

variable (m : (ℓ : Loc nD τ sig) → Buf (Elt Ideal) ℓ)

/-! # What the reference leaves in its four result arrays -/

/-- The arguments, as index functions. -/
abbrev X (c : Dev nD) (b : Fin 24) (r : Fin 512) (j : Fin 1536) : EReal := (m ((c : Thread nD τ).loc main_arg0) : Vec Ideal S24x512x1536 .bf16) (ix3 b r j)
abbrev WC (c : Dev nD) (r : Fin 1536) (j : Fin 5120) : EReal := (m ((c : Thread nD τ).loc main_arg1) : Vec Ideal S1536x5120 .fp8e4m3) (ix2 r j)
abbrev WS (c : Dev nD) (g : Fin 12) (b : Fin 40) : EReal := (m ((c : Thread nD τ).loc main_arg2) : Vec Ideal S12x40 .f32) (ix2 g b)
abbrev DN (c : Dev nD) (r : Fin 1536) (q : Fin 48) : EReal := (m ((c : Thread nD τ).loc main_arg3) : Vec Ideal S1536x48 .bf16) (ix2 r q)
abbrev UP (c : Dev nD) (q : Fin 48) (j : Fin 5120) : EReal := (m ((c : Thread nD τ).loc main_arg4) : Vec Ideal S48x5120 .bf16) (ix2 q j)
abbrev MG (c : Dev nD) (j : Fin 5120) : EReal := (m ((c : Thread nD τ).loc main_arg5) : Vec Ideal S5120 .f32) (ix1 j)

/-- The only grid point. -/
def t0 : Fin cfg0.N := ⟨0, by decide⟩

theorem ix_0 : ∀ t : Fin cfg0.N, win0_0.index t = ![0, 0, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, 0] := by decide +kernel
theorem ix_5 : ∀ t : Fin cfg0.N, win0_5.index t = ![0] := by decide +kernel

/-- Each operand's block is the whole array. -/
theorem iblk0_eq (c : Dev nD) (t : Fin cfg0.N) : (iblk m c 0 t : Vec Ideal S24x512x1536 .bf16) = (m ((c : Thread nD τ).loc main_arg0) : Vec Ideal S24x512x1536 .bf16) := by
  funext y
  blk_simp [iblk]
  refine congrArg _ ?_
  blk_ext [ix_0]

theorem iblk1_eq (c : Dev nD) (t : Fin cfg0.N) : (iblk m c 1 t : Vec Ideal S1536x5120 .fp8e4m3) = (m ((c : Thread nD τ).loc main_arg1) : Vec Ideal S1536x5120 .fp8e4m3) := by
  funext y
  blk_simp [iblk]
  refine congrArg _ ?_
  blk_ext [ix_1]

theorem iblk2_eq (c : Dev nD) (t : Fin cfg0.N) : (iblk m c 2 t : Vec Ideal S12x40 .f32) = (m ((c : Thread nD τ).loc main_arg2) : Vec Ideal S12x40 .f32) := by
  funext y
  blk_simp [iblk]
  refine congrArg _ ?_
  blk_ext [ix_2]

theorem iblk3_eq (c : Dev nD) (t : Fin cfg0.N) : (iblk m c 3 t : Vec Ideal S1536x48 .bf16) = (m ((c : Thread nD τ).loc main_arg3) : Vec Ideal S1536x48 .bf16) := by
  funext y
  blk_simp [iblk]
  refine congrArg _ ?_
  blk_ext [ix_3]

theorem iblk4_eq (c : Dev nD) (t : Fin cfg0.N) : (iblk m c 4 t : Vec Ideal S48x5120 .bf16) = (m ((c : Thread nD τ).loc main_arg4) : Vec Ideal S48x5120 .bf16) := by
  funext y
  blk_simp [iblk]
  refine congrArg _ ?_
  blk_ext [ix_4]

theorem iblk5_eq (c : Dev nD) (t : Fin cfg0.N) : (iblk m c 5 t : Vec Ideal S5120 .f32) = (m ((c : Thread nD τ).loc main_arg5) : Vec Ideal S5120 .f32) := by
  funext y
  blk_simp [iblk]
  refine congrArg _ ?_
  blk_ext [ix_5]

variable (x0 : Vec Ideal S24x512x1536 .bf16) (x1 : Vec Ideal S1536x5120 .fp8e4m3) (x2 : Vec Ideal S12x40 .f32) (x3 : Vec Ideal S1536x48 .bf16)
  (x4 : Vec Ideal S48x5120 .bf16) (x5 : Vec Ideal S5120 .f32)

theorem z3 : (![0, 0, 0] : Fin 3 → ℕ) = fun _ => 0 := by funext a; fin_cases a <;> rfl
theorem z2 : (![0, 0] : Fin 2 → ℕ) = fun _ => 0 := by funext a; fin_cases a <;> rfl
theorem z1 : (![0] : Fin 1 → ℕ) = fun _ => 0 := by funext a; fin_cases a; rfl

/-- The codes the body leaves. -/
theorem out_codes (b : Fin 24) (r : Fin 512) (j : Fin 1536) : out0_8 x0 x1 x2 x3 x4 x5 (ix3 b r j) = rcode (xrow x0 b r) j := by
  unfold_out out0_8
  unfold r0_0
  rw [View.canon_unit_zero z3, View.ld_unit_zero z3]
  exact codes_at x0 b r j

/-- The scales the body leaves. -/
theorem out_scales (b : Fin 24) (r : Fin 512) (g : Fin 12) : out0_9 x0 x1 x2 x3 x4 x5 (ix3 b r g) = rscale (seg (xrow x0 b r) g) := by
  unfold_out out0_9
  unfold r0_0 r0_8
  rw [View.canon_unit_zero z3, View.ld_unit_zero z3]
  exact k0_pay4_at x0 b r g

/-- The norms the body leaves. -/
theorem out_norm (j : Fin 5120) : out0_7 x0 x1 x2 x3 x4 x5 (ix2 0 j)
    = Dora.norm (fun r j => x1 (ix2 r j)) (fun g b => x2 (ix2 g b)) (fun r q => x3 (ix2 r q)) (fun q j => x4 (ix2 q j)) j := by
  unfold_out out0_7
  unfold r0_1 r0_2 r0_3 r0_4 r0_7
  rw [View.canon_unit_zero z2, View.ld_unit_zero z2, View.ld_unit_zero z2, View.ld_unit_zero z2, View.ld_unit_zero z2]
  rw [k0_pay8_at, k0_pay1_at]

/-- The result the body leaves. -/
theorem out_y (b : Fin 24) (r : Fin 512) (j : Fin 5120) : out0_6 x0 x1 x2 x3 x4 x5 (ix3 b r j)
    = ry (xrow x0 b r) (fun r j => x1 (ix2 r j)) (fun g b => x2 (ix2 g b)) (fun r q => x3 (ix2 r q)) (fun q j => x4 (ix2 q j)) (fun j => x5 (ix1 j)) j := by
  unfold_out out0_6
  unfold r0_0 r0_1 r0_2 r0_3 r0_4 r0_5 r0_6
  rw [View.canon_unit_zero z3, View.ld_unit_zero z3, View.ld_unit_zero z2, View.ld_unit_zero z2, View.ld_unit_zero z2, View.ld_unit_zero z2, View.ld_unit_zero z1]
  rw [k0_pay7_at, k0_pay1_at]
  unfold ry
  simp only [codes_at, k0_pay4_at]

/-- The codes over the arguments. -/
theorem final_codes (c : Dev nD) : (dats m 0 c).arrAt 8 cfg0.N = (fun i => rcode (X m c (i 0) (i 1)) (i 2) : Vec Ideal S24x512x1536 .fp8e4m3) := by
  refine (dats m 0 c).arrAt_eq_of_after_last 8 t0 (by decide +kernel) _ fun y => ?_
  rw [after0_8, iblk0_eq, iblk1_eq, iblk2_eq, iblk3_eq, iblk4_eq, iblk5_eq]
  blk_simp
  refine Eq.trans (congrArg _ ?_) (out_codes _ _ _ _ _ _ (y 0) (y 1) (y 2))
  funext a; fin_cases a <;> rfl

/-- The scales over the arguments. -/
theorem final_scales (c : Dev nD) : (dats m 0 c).arrAt 9 cfg0.N = (fun i => rscale (seg (X m c (i 0) (i 1)) (i 2)) : Vec Ideal S24x512x12 .f32) := by
  refine (dats m 0 c).arrAt_eq_of_after_last 9 t0 (by decide +kernel) _ fun y => ?_
  rw [after0_9, iblk0_eq, iblk1_eq, iblk2_eq, iblk3_eq, iblk4_eq, iblk5_eq]
  blk_simp
  refine Eq.trans (congrArg _ ?_) (out_scales _ _ _ _ _ _ (y 0) (y 1) (y 2))
  funext a; fin_cases a <;> rfl

/-- The norms over the arguments. -/
theorem final_norm (c : Dev nD) : (dats m 0 c).arrAt 7 cfg0.N = (fun i => Dora.norm (WC m c) (WS m c) (DN m c) (UP m c) (i 1) : Vec Ideal S1x5120 .f32) := by
  refine (dats m 0 c).arrAt_eq_of_after_last 7 t0 (by decide +kernel) _ fun y => ?_
  rw [after0_7, iblk0_eq, iblk1_eq, iblk2_eq, iblk3_eq, iblk4_eq, iblk5_eq]
  blk_simp
  refine Eq.trans (congrArg _ ?_) (out_norm _ _ _ _ _ _ (y 1))
  funext a; fin_cases a
  · exact Subsingleton.elim (α := Fin 1) _ _
  · rfl

/-- The result over the arguments. -/
theorem final_y (c : Dev nD) : (dats m 0 c).arrAt 6 cfg0.N
    = (fun i => ry (X m c (i 0) (i 1)) (WC m c) (WS m c) (DN m c) (UP m c) (MG m c) (i 2) : Vec Ideal S24x512x5120 .bf16) := by
  refine (dats m 0 c).arrAt_eq_of_after_last 6 t0 (by decide +kernel) _ fun y => ?_
  rw [after0_6, iblk0_eq, iblk1_eq, iblk2_eq, iblk3_eq, iblk4_eq, iblk5_eq]
  blk_simp
  refine Eq.trans (congrArg _ ?_) (out_y _ _ _ _ _ _ (y 0) (y 1) (y 2))
  funext a; fin_cases a <;> rfl

end Cert.ReferenceIdeal.Hand

end
-- ==== Proof.Equal.lean ====
module

public import proofs.«01_k».proof.Defs
public import proofs.«01_k».proof.Proof.KVal
public import proofs.«01_k».proof.Proof.RefVal
public import proofs.«01_k».proof.Proof.Gen.Pre_finite_x

@[expose] public section

set_option maxRecDepth 16384

noncomputable section

namespace Cert.Equal

open Idealize.ShloMosaic Idealize.ShloMosaic.TcCoe Idealize.SL.Sem
open Cert.Dora

/-! # The kernel's results are the reference's -/

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- What the precondition says: every entry of the input is at most the greatest finite bfloat16 in magnitude. -/
theorem finite (h : Pre_KernelIdeal_finite_x (hPre_finite_x := Cert.Pre_finite_x.Gen.facts) m) (c : Dev KernelIdeal.nD) (b : Fin 24) (r : Fin 512) (j : Fin 1536) :
    FloatOps.absf (F := Ideal) (φ := .f32) (KernelIdeal.Hand.X m c b r j) ≤ Ideal.ofBits .f32 0x7F7F0000#32 := by
  have e := congrFun (h c) (ix3 b r j)
  have e' : Ideal.cmp .ole (FloatOps.absf (F := Ideal) (φ := .f32) (KernelIdeal.Hand.X m c b r j)) (Ideal.ofBits .f32 0x7F7F0000#32) = 1#1 := e
  unfold Ideal.cmp at e'
  generalize FloatOps.absf (F := Ideal) (φ := .f32) (KernelIdeal.Hand.X m c b r j) = u at e' ⊢
  generalize Ideal.ofBits .f32 0x7F7F0000#32 = v at e' ⊢
  by_contra hc
  simp [hc] at e'

/-- The two programs start from the same six arguments. -/
def Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)

/-- The first result: the layer's output. -/
def Y (c : Dev KernelIdeal.nD) : Vec Ideal KernelIdeal.S24x512x5120 .bf16 :=
  fun i => ry (KernelIdeal.Hand.X m c (i 0) (i 1)) (KernelIdeal.Hand.WC m c) (KernelIdeal.Hand.WS m c) (KernelIdeal.Hand.DN m c) (KernelIdeal.Hand.UP m c) (KernelIdeal.Hand.MG m c) (i 2)
/-- The second result: the column norms. -/
def N (c : Dev KernelIdeal.nD) : Vec Ideal KernelIdeal.S1x5120 .f32 :=
  fun i => Dora.norm (KernelIdeal.Hand.WC m c) (KernelIdeal.Hand.WS m c) (KernelIdeal.Hand.DN m c) (KernelIdeal.Hand.UP m c) (i 1)
/-- The third result: the codes of the input. -/
def Q (c : Dev KernelIdeal.nD) : Vec Ideal KernelIdeal.S24x512x1536 .fp8e4m3 := fun i => rcode (KernelIdeal.Hand.X m c (i 0) (i 1)) (i 2)
/-- The fourth result: the scales of the input, one for each group of 128. -/
def S (c : Dev KernelIdeal.nD) : Vec Ideal KernelIdeal.S24x512x12 .f32 := fun i => rscale (seg (KernelIdeal.Hand.X m c (i 0) (i 1)) (i 2))

/-- The kernel's result arrays hold them. -/
theorem kernel_arrays (h : Pre_KernelIdeal_finite_x (hPre_finite_x := Cert.Pre_finite_x.Gen.facts) m) (c : Dev KernelIdeal.nD) :
    (KernelIdeal.Hand.dats m 0 c).arrAt 6 KernelIdeal.cfg0.N = Y m c ∧ (KernelIdeal.Hand.dats m 0 c).arrAt 7 KernelIdeal.cfg0.N = N m c
    ∧ (KernelIdeal.Hand.dats m 0 c).arrAt 8 KernelIdeal.cfg0.N = Q m c ∧ (KernelIdeal.Hand.dats m 0 c).arrAt 9 KernelIdeal.cfg0.N = S m c := by
  have hs := fun b r => row_scales (KernelIdeal.Hand.X m c b r) (fun j => finite m h c b r j)
  refine ⟨(KernelIdeal.Hand.final_y m c).trans (funext fun i => ?_), KernelIdeal.Hand.final_norm m c, (KernelIdeal.Hand.final_codes m c).trans (funext fun i => ?_),
    (KernelIdeal.Hand.final_scales m c).trans (funext fun i => ?_)⟩
  · exact ky_eq_ry _ _ _ _ _ (KernelIdeal.Hand.MG m c) _ (hs (i 0) (i 1))
  · exact kcode_eq_rcode _ (hs (i 0) (i 1)) _
  · exact (hs (i 0) (i 1) (i 2)).1

/-- The reference's result arrays hold them. -/
theorem reference_arrays (c : Dev KernelIdeal.nD) (hag : Agree m m' c) :
    (ReferenceIdeal.Gen.dats m' 0 c).arrAt 6 ReferenceIdeal.cfg0.N = Y m c ∧ (ReferenceIdeal.Gen.dats m' 0 c).arrAt 7 ReferenceIdeal.cfg0.N = N m c
    ∧ (ReferenceIdeal.Gen.dats m' 0 c).arrAt 8 ReferenceIdeal.cfg0.N = Q m c ∧ (ReferenceIdeal.Gen.dats m' 0 c).arrAt 9 ReferenceIdeal.cfg0.N = S m c := by
  obtain ⟨a0, a1, a2, a3, a4, a5⟩ := hag
  have eX : ReferenceIdeal.Hand.X m' c = KernelIdeal.Hand.X m c := by funext b r j; exact congrFun a0 (ix3 b r j)
  have eC : ReferenceIdeal.Hand.WC m' c = KernelIdeal.Hand.WC m c := by funext r j; exact congrFun a1 (ix2 r j)
  have eS : ReferenceIdeal.Hand.WS m' c = KernelIdeal.Hand.WS m c := by funext r j; exact congrFun a2 (ix2 r j)
  have eD : ReferenceIdeal.Hand.DN m' c = KernelIdeal.Hand.DN m c := by funext r j; exact congrFun a3 (ix2 r j)
  have eU : ReferenceIdeal.Hand.UP m' c = KernelIdeal.Hand.UP m c := by funext r j; exact congrFun a4 (ix2 r j)
  have eM : ReferenceIdeal.Hand.MG m' c = KernelIdeal.Hand.MG m c := by funext j; exact congrFun a5 (ix1 j)
  refine ⟨(ReferenceIdeal.Hand.final_y m' c).trans ?_, (ReferenceIdeal.Hand.final_norm m' c).trans ?_, (ReferenceIdeal.Hand.final_codes m' c).trans ?_,
    (ReferenceIdeal.Hand.final_scales m' c).trans ?_⟩
  · rw [eX, eC, eS, eD, eU, eM]; rfl
  · rw [eC, eS, eD, eU]; rfl
  · rw [eX]; rfl
  · rw [eX]; rfl

/-- The algebraic claim: from equal arguments with a finite input the two programs leave the same four results. -/
theorem algebraic : algebraic_KernelIdeal_ReferenceIdeal_pre_finite_x (hKernelIdeal := Cert.KernelIdeal.Gen.facts) (hReferenceIdeal := Cert.ReferenceIdeal.Gen.facts)
    (hPre_finite_x := Cert.Pre_finite_x.Gen.facts) := fun m g m' g' hpre hag =>
  ⟨Y m, N m, Q m, S m,
    (θ_run _ _ _).mono (fun r h c => by
      obtain ⟨k6, k7, k8, k9⟩ := kernel_arrays m hpre c
      exact ⟨((h.1.1 c).1 6).trans k6, ((h.1.1 c).1 7).trans k7, ((h.1.1 c).1 8).trans k8, ((h.1.1 c).1 9).trans k9, h.2.1 c⟩)
      (θ_run_and (KernelIdeal.Hand.run_main_quiescent m g) (KernelIdeal.Hand.frame m g)),
    (θ_run _ _ _).mono (fun r h c => by
      obtain ⟨k6, k7, k8, k9⟩ := reference_arrays m m' c (hag c)
      exact ⟨((h.1.1 c).1 6).trans k6, ((h.1.1 c).1 7).trans k7, ((h.1.1 c).1 8).trans k8, ((h.1.1 c).1 9).trans k9, h.2.1 c⟩)
      (θ_run_and (ReferenceIdeal.Gen.run_main_quiescent m' g') (ReferenceIdeal.Gen.frame m' g'))⟩

end Cert.Equal

end
-- ==== Proof.Safe.lean ====
module

public import proofs.«01_k».proof.Proof.RunA
public import proofs.«01_k».proof.Proof.Gen.Kernel
public import proofs.«01_k».proof.Proof.Gen.KernelIdeal.Frame
public import Idealize.ShloMosaic.Lib.Claim

@[expose] public section

set_option maxRecDepth 16384

noncomputable section

namespace Cert.KernelIdeal.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernel's frame, whatever the floats are

The run terminates without fault and leaves the arguments unchanged, for every reading of the floats. Nothing is said
here of what the outputs hold. -/

set_option maxHeartbeats 2000000 in
/-- The body runs from any contents of its buffers, at every grid point. -/
theorem body (c : Dev nD) (i : grid0.Coords) (arg1 : Memref sig .tc .vmem S1x512x1536 .bf16) (harg1 : arg1.IsWhole) (arg2 : Memref sig .tc .vmem S1536x5120 .fp8e4m3) (harg2 : arg2.IsWhole) (arg3 : Memref sig .tc .smem S12x40 .f32) (harg3 : arg3.IsWhole) (arg4 : Memref sig .tc .vmem S1536x48 .bf16) (harg4 : arg4.IsWhole) (arg5 : Memref sig .tc .vmem S48x5120 .bf16) (harg5 : arg5.IsWhole) (arg6 : Memref sig .tc .vmem S1x5120 .f32) (harg6 : arg6.IsWhole) (arg7 : Memref sig .tc .vmem S1x512x5120 .bf16) (harg7 : arg7.IsWhole) (arg8 : Memref sig .tc .vmem S1x5120 .f32) (harg8 : arg8.IsWhole) (arg9 : Memref sig .tc .vmem S1x512x1536 .fp8e4m3) (harg9 : arg9.IsWhole) (arg10 : Memref sig .tc .vmem S1x512x12 .f32) (harg10 : arg10.IsWhole) (arg11 : Memref sig .tc .vmem S1792x5120 .bf16) (harg11 : arg11.IsWhole) (arg12 : Memref sig .tc .vmem S512x1792 .bf16) (harg12 : arg12.IsWhole) (arg13 : Memref sig .tc .vmem S1x5120 .f32) (harg13 : arg13.IsWhole) (x0 : Vec F S1x512x1536 .bf16) (x1 : Vec F S1536x5120 .fp8e4m3) (x2 : Vec F S12x40 .f32) (x3 : Vec F S1536x48 .bf16) (x4 : Vec F S48x5120 .bf16) (x5 : Vec F S1x5120 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
    ⊢ wp frame (wpE (defs₀ (F := F)) Variants.none c none) E (cc0_dora_linear (F := F) i arg1 harg1 arg2 harg2 arg3 harg3 arg4 harg4 arg5 harg5 arg6 harg6 arg7 harg7 arg8 harg8 arg9 harg9 arg10 harg10 arg11 harg11 arg12 harg12 arg13 harg13) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  by_cases hc0 : cond0_0 i
  · iapply ((runA (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 f8 f11 f12 f13).2.2.2.2.2.2.2 E K f7 f9 f10)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H1, H2, H3, H4, H5, H6, H7, H8, H9, H10, H11, H12, H13⟩
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl
  · obtain rfl := harg11.eq_unread hf11; obtain rfl := harg13.eq_unread hf13
    iapply ((runB (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 d11 d13 f12).2.2.2.2 E K f7 f8 f9 f10)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H1, H2, H3, H4, H5, H6, H7, H8, H9, H10, H11, H12, H13⟩
    iapply Hk
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

abbrev ms0 (t : Fin cfg0.N) : Memref sig .tc .vmem S1x512x1536 .bf16 := win0_0.stage (cfg0.slots t 0)
abbrev ms1 (t : Fin cfg0.N) : Memref sig .tc .vmem S1536x5120 .fp8e4m3 := win0_1.stage (cfg0.slots t 1)
abbrev ms2 (t : Fin cfg0.N) : Memref sig .tc .smem S12x40 .f32 := win0_2.stage (cfg0.slots t 2)
abbrev ms3 (t : Fin cfg0.N) : Memref sig .tc .vmem S1536x48 .bf16 := win0_3.stage (cfg0.slots t 3)
abbrev ms4 (t : Fin cfg0.N) : Memref sig .tc .vmem S48x5120 .bf16 := win0_4.stage (cfg0.slots t 4)
abbrev ms5 (t : Fin cfg0.N) : Memref sig .tc .vmem S1x5120 .f32 := win0_5.stage (cfg0.slots t 5)
abbrev ms6 (t : Fin cfg0.N) : Memref sig .tc .vmem S1x512x5120 .bf16 := win0_6.stage (cfg0.slots t 6)
abbrev ms7 (t : Fin cfg0.N) : Memref sig .tc .vmem S1x5120 .f32 := win0_7.stage (cfg0.slots t 7)
abbrev ms8 (t : Fin cfg0.N) : Memref sig .tc .vmem S1x512x1536 .fp8e4m3 := win0_8.stage (cfg0.slots t 8)
abbrev ms9 (t : Fin cfg0.N) : Memref sig .tc .vmem S1x512x12 .f32 := win0_9.stage (cfg0.slots t 9)

/-- The scratch and the generator's register at any contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- Proof data that say nothing of what the body leaves. -/
def dat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem dat_after (c : Dev nD) (w : Fin cfg0.W) (t : Fin cfg0.N) (Y X) : (dat m c).after w t Y X = True := rfl
theorem dat_Phi (c : Dev nD) (t) : (dat m c).Φ t = Pipeline.ΦA spec0 c := rfl

set_option maxHeartbeats 4000000 in
/-- The body at a grid point of the pipeline. -/
theorem sound (c : Dev nD) (t : Fin cfg0.N) (Y : (w : Fin cfg0.W) → (cfg0.win w).block.Idx → Elt F (cfg0.win w).elt) :
    iprop((dat m c).Φ t.castSucc ∗ (dat m c).owesAt () t.castSucc ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9))
    ⊢ wp frame (wpE (defs₀ (F := F)) Variants.none c none) Set.univ (bodyAt0 t) (fun _ =>
      iprop((dat m c).Φ t.succ ∗ (dat m c).owesAt () t.succ ∗ (∃ X, ⌜True⌝ ∗ owns (c : Thread nD τ) (ms0 t) fullShare X) ∗ (∃ X, ⌜True⌝ ∗ owns (c : Thread nD τ) (ms1 t) fullShare X) ∗ (∃ X, ⌜True⌝ ∗ owns (c : Thread nD τ) (ms2 t) fullShare X) ∗ (∃ X, ⌜True⌝ ∗ owns (c : Thread nD τ) (ms3 t) fullShare X) ∗ (∃ X, ⌜True⌝ ∗ owns (c : Thread nD τ) (ms4 t) fullShare X) ∗ (∃ X, ⌜True⌝ ∗ owns (c : Thread nD τ) (ms5 t) fullShare X) ∗ (∃ X, ⌜True⌝ ∗ owns (c : Thread nD τ) (ms6 t) fullShare X) ∗ (∃ X, ⌜True⌝ ∗ owns (c : Thread nD τ) (ms7 t) fullShare X) ∗ (∃ X, ⌜True⌝ ∗ owns (c : Thread nD τ) (ms8 t) fullShare X) ∗ (∃ X, ⌜True⌝ ∗ owns (c : Thread nD τ) (ms9 t) fullShare X))) := by
  unfold bodyAt0
  rw [show (dat m c).owesAt () t.succ = (dat m c).owesAt () t.castSucc from rfl, dat_Phi, dat_Phi, scratch_eq]
  iintro ⟨⟨⟨H11, H12, H13⟩, Hg⟩, Ho, H1, H2, H3, H4, H5, H6, H7, H8, H9, H10⟩
  iapply (body c (grid0.coords t) _ _ _ _ _ _ _ _ _ _ _ _ _ _ _ _ _ _ _ _ _ _ _ _ _ _ (Y 0) (Y 1) (Y 2) (Y 3) (Y 4) (Y 5) Set.univ _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [H12]; · iexact H12
  isplitl [H13]; · iexact H13
  iintro ⟨⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, H11, H12, H13⟩
  isplitl [H11 H12 H13 Hg]
  · isplitl [H11 H12 H13]
    · isplitl [H11]; · iexact H11
      isplitl [H12]; · iexact H12
      iexact H13
    iexact Hg
  isplitl [Ho]; · iexact Ho
  isplitl [H1]
  · iexists e1; isplitr; · ipureintro; trivial
    iexact H1
  isplitl [H2]
  · iexists e2; isplitr; · ipureintro; trivial
    iexact H2
  isplitl [H3]
  · iexists e3; isplitr; · ipureintro; trivial
    iexact H3
  isplitl [H4]
  · iexists e4; isplitr; · ipureintro; trivial
    iexact H4
  isplitl [H5]
  · iexists e5; isplitr; · ipureintro; trivial
    iexact H5
  isplitl [H6]
  · iexists e6; isplitr; · ipureintro; trivial
    iexact H6
  isplitl [H7]
  · iexists e7; isplitr; · ipureintro; trivial
    iexact H7
  isplitl [H8]
  · iexists e8; isplitr; · ipureintro; trivial
    iexact H8
  isplitl [H9]
  · iexists e9; isplitr; · ipureintro; trivial
    iexact H9
  iexists e10; isplitr; · ipureintro; trivial
  iexact H10

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : (dat m c).BodyObligation (defs₀ (F := F)) Variants.none () Set.univ := fun t Y _ => by
  rw [bigSep_W0, bigSep_W0, defs₀_row]
  exact triple_restated (sound m c t Y) rfl .rfl fun _ => .rfl

set_option backward.isDefEq.respectTransparency.types false in
/-- The launch: the arrays of the inputs end unchanged, and so does every buffer no window stages. -/
theorem run_main : θ_run defs (onTc (τ := τ) (main (F := F))) (s₀ m ρ)
    (fun r => RDat.FramePost cfg0 (dat m) (V m) r ∧ r.2.sem = fun _ => 0) :=
  RDat.θ_run_frame cfgs (0 : Fin 1) launch0 defs₀ Variants.none (dat m) m ρ main
    (hbody := body_obligation m) (hshare := fun c => (dat m c).share_full fun _ => rfl)
    (howed := fun _ _ => rfl) (V := V m) (hmain := hmain m Variants.none) (hA := fun _ _ => rfl)
    (hΦ := fun _ _ => rfl) (Q' := _)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      ((h.1 c).2 main_arg5 (Pipeline.mem_restRefs_of main_arg5 (by decide) (by decide))).trans (V_main_arg5 m c)⟩, h.2⟩) (run_main m ρ)

end Cert.KernelIdeal.Safe

namespace Cert.Kernel.Safe

open Idealize.ShloMosaic Idealize.ShloMosaic.TcCoe Idealize.ShloMosaic.Tactic

variable {F : FTy → Type} [FloatOps F]

/-- The two programs have the same tables of buffers, so the same memory. -/
theorem sig_eq : Cert.Kernel.sig = Cert.KernelIdeal.sig := rfl

/-- What a frame says of a program, at the memory it starts from. -/
def Frame (m : (ℓ : Loc Cert.Kernel.nD Cert.Kernel.τ Cert.Kernel.sig) → Buf (Elt F) ℓ) (ρ : Dev Cert.Kernel.nD → PrngReg) : Prop :=
  θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

/-- The same of the program the value claim is about. -/
def FrameIdeal (m : (ℓ : Loc Cert.KernelIdeal.nD Cert.KernelIdeal.τ Cert.KernelIdeal.sig) → Buf (Elt F) ℓ) (ρ : Dev Cert.KernelIdeal.nD → PrngReg) : Prop :=
  θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The two programs are one text, so the two statements are one. -/
theorem frame_eq : @Frame F _ = @FrameIdeal F _ := by sl_kernel_rfl

/-- The kernel as printed leaves its arguments unchanged and every semaphore at zero. -/
theorem frame (m : (ℓ : Loc Cert.Kernel.nD Cert.Kernel.τ Cert.Kernel.sig) → Buf (Elt F) ℓ) (ρ : Dev Cert.Kernel.nD → PrngReg) : Frame m ρ := by
  rw [frame_eq]
  exact Cert.KernelIdeal.Safe.frame m ρ

end Cert.Kernel.Safe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_x
public import proofs.«01_k».proof.Proof.Equal
public import proofs.«01_k».proof.Proof.Safe
public import Idealize.ShloMosaic.Adequacy
public import Idealize.ShloMosaic.Init

@[expose] public section

noncomputable section

namespace Cert.Proof

open Idealize.ShloMosaic Idealize.SL.Sem Cert.Kernel

/-- Every claim of the certificate: the three frames (the ideal ones with and without the precondition), the
    idealization, and the equality of the four results. -/
theorem claim : Cert.Claim := ⟨Cert.Kernel.Gen.facts, Cert.KernelIdeal.Gen.facts, Cert.ReferenceIdeal.Gen.facts, Cert.Pre_finite_x.Gen.facts,
  fun m ρ _ => Cert.Kernel.Safe.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.Equal.algebraic⟩

end Cert.Proof

end
